-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_ReferenceIdeal_on_clip_inactive [hKernelIdeal : Cert.KernelIdeal.Facts] [hReferenceIdeal : Cert.ReferenceIdeal.Facts] [hOn_clip_inactive : Cert.On_clip_inactive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 64]⟩ ⟨2, ![2048, 2048]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![64, 2048]⟩ ⟨2, ![2048, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2048, 2048]⟩ : Shape).Idx, (Cert.On_clip_inactive.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem ((c.tc : Thread Cert.KernelIdeal.nD Cert.KernelIdeal.τ).loc Cert.KernelIdeal.main_v7) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![2048, 2048]⟩ : Shape).Idx, (Cert.On_clip_inactive.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v8) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 64]⟩ ⟨2, ![2048, 2048]⟩ 1 32 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = Layout.block ⟨2, ![64, 2048]⟩ ⟨2, ![2048, 2048]⟩ 0 32 c (m' (((0 : Dev Cert.SiluIdeal.nD).tc : Thread Cert.SiluIdeal.nD Cert.SiluIdeal.τ).loc Cert.SiluIdeal.main_arg1))) →
    ∃ (v0 : Buf (Elt Ideal) (((0 : Dev Cert.SiluIdeal.nD).tc : Thread Cert.SiluIdeal.nD Cert.SiluIdeal.τ).loc Cert.SiluIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v7) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hOn_clip_inactive : Cert.On_clip_inactive.Facts),
    quiescent_Kernel (hKernel := hKernel)
    ∧ quiescent_KernelIdeal (hKernelIdeal := hKernelIdeal)
    ∧ quiescent_ReferenceIdeal (hReferenceIdeal := hReferenceIdeal)
    ∧ quiescent_SiluIdeal (hSiluIdeal := hSiluIdeal)
    ∧ preserves_Kernel_KernelIdeal
    ∧ algebraic_KernelIdeal_ReferenceIdeal_on_clip_inactive (hKernelIdeal := hKernelIdeal) (hReferenceIdeal := hReferenceIdeal) (hOn_clip_inactive := hOn_clip_inactive)
    ∧ algebraic_KernelIdeal_SiluIdeal (hKernelIdeal := hKernelIdeal) (hSiluIdeal := hSiluIdeal)
-- ==== On_clip_inactive.lean ====
abbrev S2048x2048 : Shape := ⟨2, ![2048, 2048]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  dot_S2048x2048_S2048x2048_S2048x2048_1_0_0_1_n_n_wf : DotDims.WF S2048x2048 S2048x2048 S2048x2048 [1] [0] [0] [1] [] []

variable [Facts]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def fn {F : FTy → Type} [FloatOps F] (main_arg0 : FVec F S2048x2048 .bf16) (main_arg1 : FVec F S2048x2048 .bf16) : IVec S2048x2048 1 :=
  let main_v0 : FVec F S2048x2048 .f32 := (extf .f32 · bitsLt_bf16_f32) main_arg0
  let main_v1 : FVec F S2048x2048 .f32 := (extf .f32 · bitsLt_bf16_f32) main_arg1
  let main_v2 : FVec F S2048x2048 .f32 := (fun l r => Host.dotGeneral dot_S2048x2048_S2048x2048_S2048x2048_1_0_0_1_n_n none l r) main_v0 main_v1
  let main_v3 : FVec F S2048x2048 .f32 := Host.absf main_v2
  let main_cst : FVec F S_ .f32 := constant S_ .f32 0x42700000#32
  let main_v4 : FVec F S2048x2048 .f32 := broadcastInDim S2048x2048 ![] bcast_S_S2048x2048 main_cst
  let main_v5 : IVec S2048x2048 1 := cmpf .ole main_v3 main_v4
  main_v5
-- ==== Kernel.lean ====
abbrev S2048x64 : Shape := ⟨2, ![2048, 64]⟩
abbrev S64x2048 : Shape := ⟨2, ![64, 2048]⟩
abbrev S32x7 : Shape := ⟨2, ![32, 7]⟩
abbrev S_ : Shape := ⟨0, ![]⟩
abbrev S1 : Shape := ⟨1, ![1]⟩
abbrev S7 : Shape := ⟨1, ![7]⟩
abbrev S2048x2048 : Shape := ⟨2, ![2048, 2048]⟩
abbrev S2x2048x2048 : Shape := ⟨3, ![2, 2048, 2048]⟩
abbrev S8x128 : Shape := ⟨2, ![8, 128]⟩
abbrev S7x8x128 : Shape := ⟨3, ![7, 8, 128]⟩
abbrev S1x2048x2048 : Shape := ⟨3, ![1, 2048, 2048]⟩
abbrev S1x8x128 : Shape := ⟨3, ![1, 8, 128]⟩

abbrev nBuf : Space → Nat
  | .hbm => 49
  | .vmem => 7
  | .smem => 2
  | _ => 0

abbrev bufTy : (tb : Table) → Fin (tcTables nBuf tb) → BufTy
  | .hbm, ⟨0, _⟩ => ⟨S2048x64, .bf16⟩
  | .hbm, ⟨1, _⟩ => ⟨S64x2048, .bf16⟩
  | .hbm, ⟨2, _⟩ => ⟨S32x7, .i32⟩
  | .hbm, ⟨3, _⟩ => ⟨S32x7, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S1, .i1⟩
  | .hbm, ⟨20, _⟩ => ⟨S1, .i1⟩
  | .hbm, ⟨21, _⟩ => ⟨S1, .i1⟩
  | .hbm, ⟨22, _⟩ => ⟨S_, .i1⟩
  | .hbm, ⟨23, _⟩ => ⟨S_, .i1⟩
  | .hbm, ⟨24, _⟩ => ⟨S7, .i32⟩
  | .hbm, ⟨25, _⟩ => ⟨S7, .i1⟩
  | .hbm, ⟨26, _⟩ => ⟨S_, .i32⟩
  | .hbm, ⟨27, _⟩ => ⟨S7, .i32⟩
  | .hbm, ⟨28, _⟩ => ⟨S7, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S1, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S1, .i1⟩
  | .hbm, ⟨39, _⟩ => ⟨S1, .i1⟩
  | .hbm, ⟨40, _⟩ => ⟨S1, .i1⟩
  | .hbm, ⟨41, _⟩ => ⟨S_, .i1⟩
  | .hbm, ⟨42, _⟩ => ⟨S_, .i1⟩
  | .hbm, ⟨43, _⟩ => ⟨S7, .i32⟩
  | .hbm, ⟨44, _⟩ => ⟨S7, .i1⟩
  | .hbm, ⟨45, _⟩ => ⟨S_, .i32⟩
  | .hbm, ⟨46, _⟩ => ⟨S7, .i32⟩
  | .hbm, ⟨47, _⟩ => ⟨S7, .i32⟩
  | .hbm, ⟨48, _⟩ => ⟨S2048x2048, .f32⟩
  | .local _ .vmem, ⟨0, _⟩ => ⟨S2048x64, .bf16⟩
  | .local _ .vmem, ⟨1, _⟩ => ⟨S64x2048, .bf16⟩
  | .local _ .vmem, ⟨2, _⟩ => ⟨S2048x2048, .f32⟩
  | .local _ .vmem, ⟨3, _⟩ => ⟨S2048x2048, .bf16⟩
  | .local _ .vmem, ⟨4, _⟩ => ⟨S2x2048x2048, .bf16⟩
  | .local _ .vmem, ⟨5, _⟩ => ⟨S8x128, .f32⟩
  | .local _ .vmem, ⟨6, _⟩ => ⟨S7x8x128, .f32⟩
  | .local _ .smem, ⟨0, _⟩ => ⟨S7, .i32⟩
  | .local _ .smem, ⟨1, _⟩ => ⟨S7, .i32⟩
  | _, _ => ⟨S2048x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_c : Ref sig .tc := ⟨.hbm, 10, rfl⟩
abbrev main_call0_v0 : Ref sig .tc := ⟨.hbm, 11, rfl⟩
abbrev main_call0_c_0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_c_1 : Ref sig .tc := ⟨.hbm, 16, rfl⟩
abbrev main_call0_c_2 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_c_3 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_c_4 : Ref sig .tc := ⟨.hbm, 26, rfl⟩
abbrev main_call0_v11 : Ref sig .tc := ⟨.hbm, 27, rfl⟩
abbrev main_v5 : Ref sig .tc := ⟨.hbm, 28, rfl⟩
abbrev main_call1_c : Ref sig .tc := ⟨.hbm, 29, rfl⟩
abbrev main_call1_v0 : Ref sig .tc := ⟨.hbm, 30, rfl⟩
abbrev main_call1_c_0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_c_1 : Ref sig .tc := ⟨.hbm, 35, rfl⟩
abbrev main_call1_c_2 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_c_3 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_c_4 : Ref sig .tc := ⟨.hbm, 45, rfl⟩
abbrev main_call1_v11 : Ref sig .tc := ⟨.hbm, 46, rfl⟩
abbrev main_v6 : Ref sig .tc := ⟨.hbm, 47, rfl⟩
abbrev main_v7 : Ref sig .tc := ⟨.hbm, 48, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (v1 : BitVec 32) : Nat :=
  let c0_i32 : BitVec 32 := 0#32
  let c1_i32_0 : BitVec 32 := 1#32
  let v2 : BitVec 32 := Scalar.muli v1 c1_i32_0
  let v3 : BitVec 32 := Scalar.addi c0_i32 v2
  v3.toNat

def k0_chk1 (v1 : BitVec 32) : Prop :=
  ((k0_dev1 v1) < nD)
theorem k0_dev1_lt : ∀ (v1 : BitVec 32) (k0_hw1 : k0_chk1 v1), (k0_dev1 v1) < nD := fun v1 k0_hw1 => k0_hw1

def k0_dev2 (v4 : BitVec 32) : Nat :=
  let c0_i32_3 : BitVec 32 := 0#32
  let c1_i32_2 : BitVec 32 := 1#32
  let v5 : BitVec 32 := Scalar.muli v4 c1_i32_2
  let v6 : BitVec 32 := Scalar.addi c0_i32_3 v5
  v6.toNat

def k0_chk2 (v4 : BitVec 32) : Prop :=
  ((k0_dev2 v4) < nD)
theorem k0_dev2_lt : ∀ (v4 : BitVec 32) (k0_hw2 : k0_chk2 v4), (k0_dev2 v4) < nD := fun v4 k0_hw2 => k0_hw2

def k0_dev3 (v7 : BitVec 32) : Nat :=
  let c0_i32_6 : BitVec 32 := 0#32
  let c1_i32_5 : BitVec 32 := 1#32
  let v8 : BitVec 32 := Scalar.muli v7 c1_i32_5
  let v9 : BitVec 32 := Scalar.addi c0_i32_6 v8
  v9.toNat

def k0_chk3 (v7 : BitVec 32) : Prop :=
  ((k0_dev3 v7) < nD)
theorem k0_dev3_lt : ∀ (v7 : BitVec 32) (k0_hw3 : k0_chk3 v7), (k0_dev3 v7) < nD := fun v7 k0_hw3 => k0_hw3

def k0_dev4 (v10 : BitVec 32) : Nat :=
  let c0_i32_9 : BitVec 32 := 0#32
  let c1_i32_8 : BitVec 32 := 1#32
  let v11 : BitVec 32 := Scalar.muli v10 c1_i32_8
  let v12 : BitVec 32 := Scalar.addi c0_i32_9 v11
  v12.toNat

def k0_chk4 (v10 : BitVec 32) : Prop :=
  ((k0_dev4 v10) < nD)
theorem k0_dev4_lt : ∀ (v10 : BitVec 32) (k0_hw4 : k0_chk4 v10), (k0_dev4 v10) < nD := fun v10 k0_hw4 => k0_hw4

def k0_dev5 (v13 : BitVec 32) : Nat :=
  let c0_i32_12 : BitVec 32 := 0#32
  let c1_i32_11 : BitVec 32 := 1#32
  let v14 : BitVec 32 := Scalar.muli v13 c1_i32_11
  let v15 : BitVec 32 := Scalar.addi c0_i32_12 v14
  v15.toNat

def k0_chk5 (v13 : BitVec 32) : Prop :=
  ((k0_dev5 v13) < nD)
theorem k0_dev5_lt : ∀ (v13 : BitVec 32) (k0_hw5 : k0_chk5 v13), (k0_dev5 v13) < nD := fun v13 k0_hw5 => k0_hw5

def k0_dev6 (v16 : BitVec 32) : Nat :=
  let c0_i32_15 : BitVec 32 := 0#32
  let c1_i32_14 : BitVec 32 := 1#32
  let v17 : BitVec 32 := Scalar.muli v16 c1_i32_14
  let v18 : BitVec 32 := Scalar.addi c0_i32_15 v17
  v18.toNat

def k0_chk6 (v16 : BitVec 32) : Prop :=
  ((k0_dev6 v16) < nD)
theorem k0_dev6_lt : ∀ (v16 : BitVec 32) (k0_hw6 : k0_chk6 v16), (k0_dev6 v16) < nD := fun v16 k0_hw6 => k0_hw6

def k0_dev7 (v19 : BitVec 32) : Nat :=
  let c0_i32_18 : BitVec 32 := 0#32
  let c1_i32_17 : BitVec 32 := 1#32
  let v20 : BitVec 32 := Scalar.muli v19 c1_i32_17
  let v21 : BitVec 32 := Scalar.addi c0_i32_18 v20
  v21.toNat

def k0_chk7 (v19 : BitVec 32) : Prop :=
  ((k0_dev7 v19) < nD)
theorem k0_dev7_lt : ∀ (v19 : BitVec 32) (k0_hw7 : k0_chk7 v19), (k0_dev7 v19) < nD := fun v19 k0_hw7 => k0_hw7

def k0_dev8 (v34 : BitVec 32) : Nat :=
  let c0_i32_34 : BitVec 32 := 0#32
  let c1_i32_33 : BitVec 32 := 1#32
  let v35 : BitVec 32 := Scalar.muli v34 c1_i32_33
  let v36 : BitVec 32 := Scalar.addi c0_i32_34 v35
  v36.toNat

def k0_chk8 (v34 : BitVec 32) : Prop :=
  ((k0_dev8 v34) < nD)
theorem k0_dev8_lt : ∀ (v34 : BitVec 32) (k0_hw8 : k0_chk8 v34), (k0_dev8 v34) < nD := fun v34 k0_hw8 => k0_hw8

def k0_dev9 (v60 : BitVec 32) : Nat :=
  let c0_i32_59 : BitVec 32 := 0#32
  let c1_i32_58 : BitVec 32 := 1#32
  let v61 : BitVec 32 := Scalar.muli v60 c1_i32_58
  let v62 : BitVec 32 := Scalar.addi c0_i32_59 v61
  v62.toNat

def k0_chk9 (v60 : BitVec 32) : Prop :=
  ((k0_dev9 v60) < nD)
theorem k0_dev9_lt : ∀ (v60 : BitVec 32) (k0_hw9 : k0_chk9 v60), (k0_dev9 v60) < nD := fun v60 k0_hw9 => k0_hw9

def k0_dev10 (v79 : BitVec 32) : Nat :=
  let c0_i32_77 : BitVec 32 := 0#32
  let c1_i32_76 : BitVec 32 := 1#32
  let v80 : BitVec 32 := Scalar.muli v79 c1_i32_76
  let v81 : BitVec 32 := Scalar.addi c0_i32_77 v80
  v81.toNat

def k0_chk10 (v79 : BitVec 32) : Prop :=
  ((k0_dev10 v79) < nD)
theorem k0_dev10_lt : ∀ (v79 : BitVec 32) (k0_hw10 : k0_chk10 v79), (k0_dev10 v79) < nD := fun v79 k0_hw10 => k0_hw10

def k0_dev11 (v105 : BitVec 32) : Nat :=
  let c0_i32_102 : BitVec 32 := 0#32
  let c1_i32_101 : BitVec 32 := 1#32
  let v106 : BitVec 32 := Scalar.muli v105 c1_i32_101
  let v107 : BitVec 32 := Scalar.addi c0_i32_102 v106
  v107.toNat

def k0_chk11 (v105 : BitVec 32) : Prop :=
  ((k0_dev11 v105) < nD)
theorem k0_dev11_lt : ∀ (v105 : BitVec 32) (k0_hw11 : k0_chk11 v105), (k0_dev11 v105) < nD := fun v105 k0_hw11 => k0_hw11

def k0_dev12 (v131 : BitVec 32) : Nat :=
  let c0_i32_128 : BitVec 32 := 0#32
  let c1_i32_127 : BitVec 32 := 1#32
  let v132 : BitVec 32 := Scalar.muli v131 c1_i32_127
  let v133 : BitVec 32 := Scalar.addi c0_i32_128 v132
  v133.toNat

def k0_chk12 (v131 : BitVec 32) : Prop :=
  ((k0_dev12 v131) < nD)
theorem k0_dev12_lt : ∀ (v131 : BitVec 32) (k0_hw12 : k0_chk12 v131), (k0_dev12 v131) < nD := fun v131 k0_hw12 => k0_hw12

def k0_dev13 (v157 : BitVec 32) : Nat :=
  let c0_i32_153 : BitVec 32 := 0#32
  let c1_i32_152 : BitVec 32 := 1#32
  let v158 : BitVec 32 := Scalar.muli v157 c1_i32_152
  let v159 : BitVec 32 := Scalar.addi c0_i32_153 v158
  v159.toNat

def k0_chk13 (v157 : BitVec 32) : Prop :=
  ((k0_dev13 v157) < nD)
theorem k0_dev13_lt : ∀ (v157 : BitVec 32) (k0_hw13 : k0_chk13 v157), (k0_dev13 v157) < nD := fun v157 k0_hw13 => k0_hw13

def k0_dev14 (v183 : BitVec 32) : Nat :=
  let c0_i32_179 : BitVec 32 := 0#32
  let c1_i32_178 : BitVec 32 := 1#32
  let v184 : BitVec 32 := Scalar.muli v183 c1_i32_178
  let v185 : BitVec 32 := Scalar.addi c0_i32_179 v184
  v185.toNat

def k0_chk14 (v183 : BitVec 32) : Prop :=
  ((k0_dev14 v183) < nD)
theorem k0_dev14_lt : ∀ (v183 : BitVec 32) (k0_hw14 : k0_chk14 v183), (k0_dev14 v183) < nD := fun v183 k0_hw14 => k0_hw14

def k0_dev15 (v209 : BitVec 32) : Nat :=
  let c0_i32_204 : BitVec 32 := 0#32
  let c1_i32_203 : BitVec 32 := 1#32
  let v210 : BitVec 32 := Scalar.muli v209 c1_i32_203
  let v211 : BitVec 32 := Scalar.addi c0_i32_204 v210
  v211.toNat

def k0_chk15 (v209 : BitVec 32) : Prop :=
  ((k0_dev15 v209) < nD)
theorem k0_dev15_lt : ∀ (v209 : BitVec 32) (k0_hw15 : k0_chk15 v209), (k0_dev15 v209) < nD := fun v209 k0_hw15 => k0_hw15

def k0_dev16 (v235 : BitVec 32) : Nat :=
  let c0_i32_230 : BitVec 32 := 0#32
  let c1_i32_229 : BitVec 32 := 1#32
  let v236 : BitVec 32 := Scalar.muli v235 c1_i32_229
  let v237 : BitVec 32 := Scalar.addi c0_i32_230 v236
  v237.toNat

def k0_chk16 (v235 : BitVec 32) : Prop :=
  ((k0_dev16 v235) < nD)
theorem k0_dev16_lt : ∀ (v235 : BitVec 32) (k0_hw16 : k0_chk16 v235), (k0_dev16 v235) < nD := fun v235 k0_hw16 => k0_hw16

def k0_dev17 (v261 : BitVec 32) : Nat :=
  let c0_i32_255 : BitVec 32 := 0#32
  let c1_i32_254 : BitVec 32 := 1#32
  let v262 : BitVec 32 := Scalar.muli v261 c1_i32_254
  let v263 : BitVec 32 := Scalar.addi c0_i32_255 v262
  v263.toNat

def k0_chk17 (v261 : BitVec 32) : Prop :=
  ((k0_dev17 v261) < nD)
theorem k0_dev17_lt : ∀ (v261 : BitVec 32) (k0_hw17 : k0_chk17 v261), (k0_dev17 v261) < nD := fun v261 k0_hw17 => k0_hw17

def k0_dev18 (v287 : BitVec 32) : Nat :=
  let c0_i32_281 : BitVec 32 := 0#32
  let c1_i32_280 : BitVec 32 := 1#32
  let v288 : BitVec 32 := Scalar.muli v287 c1_i32_280
  let v289 : BitVec 32 := Scalar.addi c0_i32_281 v288
  v289.toNat

def k0_chk18 (v287 : BitVec 32) : Prop :=
  ((k0_dev18 v287) < nD)
theorem k0_dev18_lt : ∀ (v287 : BitVec 32) (k0_hw18 : k0_chk18 v287), (k0_dev18 v287) < nD := fun v287 k0_hw18 => k0_hw18

def k0_dev19 (v326 : BitVec 32) : Nat :=
  let c0_i32_319 : BitVec 32 := 0#32
  let c1_i32_318 : BitVec 32 := 1#32
  let v327 : BitVec 32 := Scalar.muli v326 c1_i32_318
  let v328 : BitVec 32 := Scalar.addi c0_i32_319 v327
  v328.toNat

def k0_chk19 (v326 : BitVec 32) : Prop :=
  ((k0_dev19 v326) < nD)
theorem k0_dev19_lt : ∀ (v326 : BitVec 32) (k0_hw19 : k0_chk19 v326), (k0_dev19 v326) < nD := fun v326 k0_hw19 => k0_hw19

abbrev stage0_0 : Fin 1 → Memref sig .tc .smem S7 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S7 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== SiluIdeal.lean ====
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Same.lean ====
/-
  The kernel and its ideal program have the same text: their bodies and their main programs are equal, over any float
  values. Nothing was rewritten between the two, so each operation equals its counterpart by definition.
-/
module

public import proofs.«01_k».proof.Proof.Gen.Kernel
public import proofs.«01_k».proof.Proof.Gen.KernelIdeal

@[expose] public section

noncomputable section

namespace Cert.Same

open Idealize.ShloMosaic Idealize.ShloMosaic.TcCoe Idealize.SL.Sem
variable {F : FTy → Type} [FloatOps F]

theorem pcfgs_same : Cert.Kernel.pcfgs (F := F) = Cert.KernelIdeal.pcfgs (F := F) := rfl
theorem defs₀_same : Cert.Kernel.defs₀ (F := F) = Cert.KernelIdeal.defs₀ (F := F) := by
  unfold Cert.Kernel.defs₀ Cert.KernelIdeal.defs₀
  congr 1
  funext l a
  match l, a with
  | 0, (t, s) => rfl
set_option maxHeartbeats 2000000 in
theorem take0 : Cert.Kernel.fn_take.body (F := F) (.of Cert.Kernel.main_c) (.of Cert.Kernel.main_v4) Cert.Kernel.main_call0
    = Cert.KernelIdeal.fn_take.body (F := F) (.of Cert.KernelIdeal.main_c) (.of Cert.KernelIdeal.main_v4) Cert.KernelIdeal.main_call0 := by
  unfold Cert.Kernel.fn_take.body Cert.KernelIdeal.fn_take.body Cert.Kernel.fn_where.body Cert.KernelIdeal.fn_where.body
  dsimp only [Cert.Kernel.main_call0, Cert.KernelIdeal.main_call0, Cert.Kernel.main_call0_call0, Cert.KernelIdeal.main_call0_call0]
  iterate 19 (refine congr (congrArg _ ?_) (funext fun _ => ?_); · rfl)
  rfl
set_option maxHeartbeats 2000000 in
theorem take1 : Cert.Kernel.fn_take.body (F := F) (.of Cert.Kernel.main_c_0) (.of Cert.Kernel.main_v4) Cert.Kernel.main_call1
    = Cert.KernelIdeal.fn_take.body (F := F) (.of Cert.KernelIdeal.main_c_0) (.of Cert.KernelIdeal.main_v4) Cert.KernelIdeal.main_call1 := by
  unfold Cert.Kernel.fn_take.body Cert.KernelIdeal.fn_take.body Cert.Kernel.fn_where.body Cert.KernelIdeal.fn_where.body
  dsimp only [Cert.Kernel.main_call1, Cert.KernelIdeal.main_call1, Cert.Kernel.main_call1_call0, Cert.KernelIdeal.main_call1_call0]
  iterate 19 (refine congr (congrArg _ ?_) (funext fun _ => ?_); · rfl)
  rfl

set_option maxHeartbeats 2000000 in
theorem main_same (d : Dev Cert.KernelIdeal.nD) : Cert.Kernel.main (F := F) d = Cert.KernelIdeal.main (F := F) d := by
  unfold Cert.Kernel.main Cert.KernelIdeal.main
  iterate 8 (refine congr (congrArg _ ?_) (funext fun _ => ?_); · rfl)
  refine congr (congrArg _ take0) (funext fun _ => ?_)
  refine congr (congrArg _ take1) (funext fun _ => ?_)
  rfl

theorem defs_same : Cert.Kernel.defs (F := F) = Cert.KernelIdeal.defs (F := F) :=
  congrArg (Pipeline.defs (Cert.KernelIdeal.pcfgs (F := F))) defs₀_same

theorem mains_same : Cert.Kernel.main (F := F) = Cert.KernelIdeal.main (F := F) := funext main_same

end Cert.Same
end
-- ==== Proof.Tables.lean ====
/-
  The two tables of the schedule, read off the printed constants: `ptn c n` is the device that `c` talks to in step `n`, `opc c n`
  what `c` does there with what it receives (0: add it, 1: take it in place of its own, 2: leave it). A step's partners are each
  other's, which is what the protocol rests on.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.Run

open Cert.KernelIdeal Cert.KernelIdeal.Gen
open Idealize.ShloMosaic Idealize.ShloMosaic.TcCoe

set_option backward.proofsInPublic true in
/-- The device `c` talks to in step `n`. -/
def ptn (c : Dev nD) (n : ℕ) : Dev nD :=
  ⟨(lit0 ⟨(c.val * 7 + n) % 224, Nat.mod_lt _ (by decide)⟩).toNat % 32, Nat.mod_lt _ (by decide)⟩
set_option backward.proofsInPublic true in
/-- What `c` does in step `n` with what it receives. -/
def opc (c : Dev nD) (n : ℕ) : ℕ := (lit1 ⟨(c.val * 7 + n) % 224, Nat.mod_lt _ (by decide)⟩).toNat

theorem ptn_ptn_fin : ∀ (c : Dev nD) (n : Fin 7), ptn (ptn c n.val) n.val = c := by decide
theorem ptn_ptn (c : Dev nD) {n : ℕ} (h : n < 7) : ptn (ptn c n) n = c := ptn_ptn_fin c ⟨n, h⟩

theorem lit0_eq : ∀ i : Fin 224, lit0 i = BitVec.ofNat 32 ((lit0 i).toNat % 32) := by decide
theorem lit1_lt : ∀ i : Fin 224, (lit1 i).toNat < 3 := by decide
theorem opc_lt (c : Dev nD) (n : ℕ) : opc c n < 3 := lit1_lt _

/-- The rows of the two tables, as the kernel reads them. -/
def ptnRow (c : Dev nD) : IVec S7 32 := fun i => BitVec.ofNat 32 (ptn c (i 0).val).val
def opcRow (c : Dev nD) : IVec S7 32 := fun i => BitVec.ofNat 32 (opc c (i 0).val)

end Cert.Run
-- ==== Proof.Proto.lean ====
/-
  The protocol of the run, over any contents `xs`, `ws` of the devices' two arguments.

  Every semaphore counts one round. In step `n` devices `c` and `ptn c n` exchange their partial sums into landing slot `(n + 1) % 2`:
    barrier cell of `c`      seven duties of one unit, duty `n` paid by `ptn c n`: it hands over that it is at round 0 of its receive cell
                             `n`, and for `n < 2` its landing slot, for `2 ≤ n` its landing row of tokens and that it is at round 0 of its
                             token cell `n`
    send cell `n`            one duty, paid by the device's own transfer: the buffer sent, back
    receive cell `n`         one duty, paid by `ptn c n`'s transfer: the landing slot holding what `ptn c n` had before step `n`, cut to bf16
    token send cell `j`      (`2 ≤ j`) one duty: the token buffer, back
    token receive cell `j`   (`2 ≤ j`) one duty, paid by `ptn c j`'s token: the landing row, and `ptn c j`'s landing slot, free again
  A device waits only where everything it still owes lies above the cell waited on (`lvDue`).
-/
module

public import proofs.«01_k».proof.Proof.Tables
public import Idealize.ShloMosaic.Lib.Pipeline.Launch
public import Idealize.ShloMosaic.Lib.Pipeline.Kit
public import Idealize.ShloMosaic.Lib.Pipeline.Regions
public import Idealize.ShloMosaic.Lib.Ring.FamCut
public import Idealize.ShloMosaic.Lib.Tactic

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UX : Type := URounds (GSem nD τ sig) (Fin 7)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-! ## The buffers -/

abbrev tabM : Memref sig .tc .smem S7 .i32 := Memref.whole cc0_stg0_0
abbrev opM : Memref sig .tc .smem S7 .i32 := Memref.whole cc0_stg1_0
abbrev xM : Memref sig .tc .vmem S2048x64 .bf16 := Memref.whole cc0_stg2_0
abbrev wM : Memref sig .tc .vmem S64x2048 .bf16 := Memref.whole cc0_stg3_0
abbrev outM : Memref sig .tc .vmem S2048x2048 .f32 := Memref.whole cc0_stg4_0
abbrev sbM : Memref sig .tc .vmem S2048x2048 .bf16 := Memref.whole cc0_scratch0
abbrev bufM : Memref sig .tc .vmem S2x2048x2048 .bf16 := Memref.whole cc0_scratch1
abbrev tsM : Memref sig .tc .vmem S8x128 .f32 := Memref.whole cc0_scratch2
abbrev tdM : Memref sig .tc .vmem S7x8x128 .f32 := Memref.whole cc0_scratch3

/-- Slot `p` of the landing buffer; -/
abbrev slotM (p : ℕ) (h : ∀ a, (![p, 0, 0] : Fin 3 → ℕ) a + S1x2048x2048.size a ≤ S2x2048x2048.size a) : Memref sig .tc .vmem S2048x2048 .bf16 :=
  (bufM.slice (Rect.unit (s := S2x2048x2048) ![p, 0, 0] S1x2048x2048.size h) (fun _ => rfl)).squeeze S2048x2048 squeezes_S1x2048x2048_S2048x2048
/-- row `j` of the landing buffer of the tokens. -/
abbrev rowM (j : ℕ) (h : ∀ a, (![j, 0, 0] : Fin 3 → ℕ) a + S1x8x128.size a ≤ S7x8x128.size a) : Memref sig .tc .vmem S8x128 .f32 :=
  (tdM.slice (Rect.unit (s := S7x8x128) ![j, 0, 0] S1x8x128.size h) (fun _ => rfl)).squeeze S8x128 squeezes_S1x8x128_S8x128

theorem slot_inb (p : ℕ) : ∀ a, (![p % 2, 0, 0] : Fin 3 → ℕ) a + S1x2048x2048.size a ≤ S2x2048x2048.size a := by
  intro a; have := Nat.mod_lt p (show 0 < 2 by decide); fin_cases a <;> simp [S1x2048x2048, S2x2048x2048]; omega
theorem row_inb (j : ℕ) : ∀ a, (![j % 7, 0, 0] : Fin 3 → ℕ) a + S1x8x128.size a ≤ S7x8x128.size a := by
  intro a; have := Nat.mod_lt j (show 0 < 7 by decide); fin_cases a <;> simp [S1x8x128, S7x8x128]; omega

/-- The landing slot of step `n`, the landing row of token `j`. -/
def slotOf (n : ℕ) : Memref sig .tc .vmem S2048x2048 .bf16 := slotM ((n + 1) % 2) (slot_inb (n + 1))
def rowOf (j : ℕ) : Memref sig .tc .vmem S8x128 .f32 := rowM (j % 7) (row_inb j)

theorem slotOf_eq {n p : ℕ} (hp : (n + 1) % 2 = p) (h) : slotOf n = slotM p h := by subst hp; rfl
theorem rowOf_eq {j : ℕ} (hj : j < 7) (h) : rowOf j = rowM j h := by
  unfold rowOf; congr 1; congr 2; rw [Nat.mod_eq_of_lt hj]

/-! ## The cells -/

abbrev barS : Sem sig := (SemArray.scalar (sig.barrier 0 rfl) : Sems sig S_).sem

set_option backward.proofsInPublic true in
/-- The kernel's own semaphores: kind 0 sends, 1 receives, 2 sends tokens, 3 receives them; `n` the step. -/
def semN (k n : ℕ) : DmaSem sig := ⟨(5 + 7 * k + n) % 33, Nat.mod_lt _ (by decide)⟩

theorem semN_val {k n : ℕ} (hk : k < 4) (hn : n < 7) : (semN k n).val = 5 + 7 * k + n := by
  unfold semN; exact Nat.mod_eq_of_lt (by omega)

abbrev barCell (c : Dev nD) : GSem nD τ sig := ((c : Thread nD τ), .reg barS)
abbrev dCell (c : Dev nD) (k n : ℕ) : GSem nD τ sig := ((c : Thread nD τ), .dma (semN k n))

/-- All of them, as the proof indexes them: the barrier cell, then the own ones kind by kind. -/
def csem (i : Fin 29) : SemLoc sig := if i.val = 0 then .reg barS else .dma (semN ((i.val - 1) / 7) ((i.val - 1) % 7))
abbrev kcell (ck : Dev nD × Fin 29) : GSem nD τ sig := ((ck.1 : Thread nD τ), csem ck.2)

set_option backward.proofsInPublic true in
def cIdx (k n : ℕ) : Fin 29 := ⟨(1 + 7 * k + n) % 29, Nat.mod_lt _ (by decide)⟩
theorem csem_cIdx {k n : ℕ} (hk : k < 4) (hn : n < 7) : csem (cIdx k n) = .dma (semN k n) := by
  have h : (cIdx k n).val = 1 + 7 * k + n := Nat.mod_eq_of_lt (by omega)
  unfold csem; rw [if_neg (by omega), h]; congr 2 <;> omega

/-- What a transfer of the partial sum credits, what one of a token does. -/
def N : ℕ := (slotOf 0).view.dmaCredit
def NT : ℕ := (rowOf 0).view.dmaCredit
theorem N_pos : 0 < N := View.dmaCredit_pos _ (by decide)
theorem NT_pos : 0 < NT := View.dmaCredit_pos _ (by decide)
theorem slot_credit (p : ℕ) (h) : (slotM p h).view.dmaCredit = N := rfl
theorem row_credit (j : ℕ) (h) : (rowM j h).view.dmaCredit = NT := rfl
theorem sb_credit : sbM.view.dmaCredit = N := rfl
theorem ts_credit : tsM.view.dmaCredit = NT := rfl
theorem slotOf_credit (n : ℕ) : (slotOf n).view.dmaCredit = N := rfl
theorem rowOf_credit (n : ℕ) : (rowOf n).view.dmaCredit = NT := rfl
attribute [irreducible] N NT

/-! ## The values -/

variable (xs : Dev nD → FVec F S2048x64 .bf16) (ws : Dev nD → FVec F S64x2048 .bf16)

/-- A partial sum as it is sent. -/
def cut (v : FVec F S2048x2048 .f32) : FVec F S2048x2048 .bf16 := k0_pay5 v
/-- What a step makes of the own partial sum `v` and the received block `B`. -/
def comb (o : ℕ) (v : FVec F S2048x2048 .f32) (B : FVec F S2048x2048 .bf16) : FVec F S2048x2048 .f32 :=
  if o = 0 then addf (shapeCast S2048x2048 v shapeCasts_S2048x2048_S2048x2048) (extf .f32 B bitsLt_bf16_f32)
  else if o = 1 then extf .f32 B bitsLt_bf16_f32 else v
/-- Device `c`'s partial sum before step `n`. -/
def val : ℕ → Dev nD → FVec F S2048x2048 .f32
  | 0, c => k0_pay4 (xs c) (ws c)
  | n + 1, c => comb (opc c n) (val n c) (cut (val n (ptn c n)))
/-- Device `c`'s result. -/
def outAt (c : Dev nD) : FVec F S2048x2048 .f32 := k0_pay3 (val xs ws 7 c)

/-! ## The payloads -/

/-- Device `c` holds the elements of `M` whole, at some contents. -/
def anyAt (c : Dev nD) {sp : Space} {s : Shape} {e : EltTy} (M : Memref sig .tc sp s e) : sProp 𝕄 :=
  iprop(∃ f : Buf (Elt F) (M.view.loc (c : Thread nD τ)), M.view.loc (c : Thread nD τ) ↦[M.view.set]{fullShare} f)

instance anyAt_storable (c : Dev nD) {sp : Space} {s : Shape} {e : EltTy} (M : Memref sig .tc sp s e) :
    BI.Storable (upEmb : UEmb _ 𝕄) (anyAt (F := F) c M) := by unfold anyAt; infer_instance

/-- What `c` needs of its partner to send it the partial sum of step `n`; -/
def goPay (c : Dev nD) (n : ℕ) : sProp 𝕄 :=
  iprop(reached ER (dCell (ptn c n) 1 n) 0 ∗ anyAt (F := F) (ptn c n) (slotOf n))
/-- to send it token `j`. -/
def tkPay (c : Dev nD) (j : ℕ) : sProp 𝕄 :=
  iprop(reached ER (dCell (ptn c j) 3 j) 0 ∗ anyAt (F := F) (ptn c j) (rowOf j))
/-- What comes with the unit that `ptn c n` pays into `c`'s barrier cell. -/
def barPay (c : Dev nD) (n : ℕ) : sProp 𝕄 :=
  if n < 2 then goPay (F := F) c n else iprop(reached ER (dCell (ptn c n) 1 n) 0 ∗ tkPay (F := F) c n)
/-- The landing slot of step `n` holding what the partner sent. -/
def recvPay (c : Dev nD) (n : ℕ) : sProp 𝕄 := owns (c : Thread nD τ) (slotOf n) fullShare (cut (val xs ws n (ptn c n)))
/-- The landing row of token `j`, and the partner's landing slot, free again. -/
def trecvPay (c : Dev nD) (j : ℕ) : sProp 𝕄 := iprop(anyAt (F := F) c (rowOf j) ∗ anyAt (F := F) (ptn c j) (slotOf j))

instance goPay_storable (c : Dev nD) (n : ℕ) : BI.Storable (upEmb : UEmb _ 𝕄) (goPay (F := F) c n) := by unfold goPay; infer_instance
instance tkPay_storable (c : Dev nD) (n : ℕ) : BI.Storable (upEmb : UEmb _ 𝕄) (tkPay (F := F) c n) := by unfold tkPay; infer_instance
instance barPay_storable (c : Dev nD) (n : ℕ) : BI.Storable (upEmb : UEmb _ 𝕄) (barPay (F := F) c n) := by
  unfold barPay; split <;> infer_instance
instance recvPay_storable (c : Dev nD) (n : ℕ) : BI.Storable (upEmb : UEmb _ 𝕄) (recvPay xs ws c n) := by unfold recvPay; infer_instance
instance trecvPay_storable (c : Dev nD) (n : ℕ) : BI.Storable (upEmb : UEmb _ 𝕄) (trecvPay (F := F) c n) := by unfold trecvPay; infer_instance

/-! ## The schedule -/

/-- The token cells of steps 0 and 1 have no duty: the slots of these steps come with the barrier. -/
abbrev noTok (q : ℕ) : Prop := q < 5 ∨ q = 19 ∨ q = 20 ∨ q = 26 ∨ q = 27

def Rd : Rounds.Schedule (GSem nD τ sig) (Fin 7) 𝕄 where
  duties g r := if r = 0 ∧ g.1.2 = .tc then
      (match g.2 with
      | .reg s => if s = barS then Finset.univ else ∅
      | .dma q => if noTok q.val then ∅ else {0})
    else ∅
  unitless _ := False
  amount g _ _ := match g.2 with
    | .reg _ => 1
    | .dma q => if q.val < 19 then N else NT
  payload g _ d := match g.2 with
    | .reg _ => barPay g.1.1 d.val
    | .dma q => if q.val < 12 then anyAt g.1.1 sbM else if q.val < 19 then recvPay xs ws g.1.1 (q.val - 12)
        else if q.val < 26 then anyAt g.1.1 tsM else trecvPay g.1.1 (q.val - 26)
  amount_pos g _ _ _ := by
    cases g.2 with
    | reg _ => exact Nat.one_pos
    | dma q => dsimp only; split; exact N_pos; exact NT_pos

instance Rd_storable (g : GSem nD τ sig) (r : ℕ) (d : Fin 7) : BI.Storable (upEmb : UEmb _ 𝕄) ((Rd xs ws).payload g r d) := by
  obtain ⟨⟨c, κ⟩, sm⟩ := g
  cases sm with
  | reg _ => show BI.Storable upEmb (barPay c d.val); infer_instance
  | dma q =>
    show BI.Storable upEmb (if q.val < 12 then anyAt c sbM else if q.val < 19 then recvPay xs ws c (q.val - 12)
        else if q.val < 26 then anyAt c tsM else trecvPay c (q.val - 26))
    (repeat' split) <;> infer_instance

section Sched
variable (c : Dev nD) {n : ℕ}

theorem duties_later (g : GSem nD τ sig) : ∀ r, 1 ≤ r → (Rd xs ws).duties g r = ∅ :=
  fun r hr => by dsimp only [Rd]; rw [if_neg fun h => by omega]
theorem duties_bar : (Rd xs ws).duties (barCell c) 0 = Finset.univ := by
  dsimp only [Rd]; rw [if_pos ⟨rfl, rfl⟩, if_pos rfl]
theorem duties_d {k : ℕ} (hk : k < 4) (hn : n < 7) (h : k < 2 ∨ 2 ≤ n) : (Rd xs ws).duties (dCell c k n) 0 = {0} := by
  dsimp only [Rd]; rw [if_pos ⟨rfl, rfl⟩, if_neg]
  rw [semN_val hk hn]; omega
theorem duties_none {k : ℕ} (hk : k < 4) (h2 : 2 ≤ k) (hn : n < 2) (r : ℕ) : (Rd xs ws).duties (dCell c k n) r = ∅ := by
  dsimp only [Rd]
  split
  · rw [if_pos]; rw [semN_val hk (by omega)]; omega
  · rfl

theorem amount_bar (d : Fin 7) : (Rd xs ws).amount (barCell c) 0 d = 1 := rfl
theorem amount_d {k : ℕ} (hk : k < 2) (hn : n < 7) (d : Fin 7) : (Rd xs ws).amount (dCell c k n) 0 d = N := by
  dsimp only [Rd]; rw [if_pos]; rw [semN_val (by omega) hn]; omega
theorem amount_t {k : ℕ} (hk : k < 4) (h2 : 2 ≤ k) (hn : n < 7) (d : Fin 7) : (Rd xs ws).amount (dCell c k n) 0 d = NT := by
  dsimp only [Rd]; rw [if_neg]; rw [semN_val hk hn]; omega

theorem expect_bar : (Rd xs ws).expect (barCell c) 0 = 7 := by
  unfold Schedule.expect Schedule.amountOf
  rw [duties_bar, Finset.sum_congr rfl fun d _ => amount_bar xs ws c d, Finset.sum_const, Finset.card_univ, Fintype.card_fin, smul_eq_mul]
theorem expect_d {k : ℕ} (hk : k < 2) (hn : n < 7) : (Rd xs ws).expect (dCell c k n) 0 = N := by
  unfold Schedule.expect Schedule.amountOf; rw [duties_d _ _ _ (by omega) hn (.inl hk), Finset.sum_singleton, amount_d _ _ _ hk hn]
theorem expect_t {k : ℕ} (hk : k < 4) (h2 : 2 ≤ k) (hn : n < 7) (hn2 : 2 ≤ n) : (Rd xs ws).expect (dCell c k n) 0 = NT := by
  unfold Schedule.expect Schedule.amountOf; rw [duties_d _ _ _ hk hn (.inr hn2), Finset.sum_singleton, amount_t _ _ _ hk h2 hn]

theorem payload_bar (d : Fin 7) : (Rd xs ws).payload (barCell c) 0 d = barPay c d.val := rfl
theorem payload_send (hn : n < 7) (d : Fin 7) : (Rd xs ws).payload (dCell c 0 n) 0 d = anyAt c sbM := by
  dsimp only [Rd]; rw [semN_val (by omega) hn, if_pos (by omega)]
theorem payload_recv (hn : n < 7) (d : Fin 7) : (Rd xs ws).payload (dCell c 1 n) 0 d = recvPay xs ws c n := by
  dsimp only [Rd]; rw [semN_val (by omega) hn, if_neg (by omega), if_pos (by omega)]; congr 1; omega
theorem payload_tsend (hn : n < 7) (d : Fin 7) : (Rd xs ws).payload (dCell c 2 n) 0 d = anyAt c tsM := by
  dsimp only [Rd]; rw [semN_val (by omega) hn, if_neg (by omega), if_neg (by omega), if_pos (by omega)]
theorem payload_trecv (hn : n < 7) (d : Fin 7) : (Rd xs ws).payload (dCell c 3 n) 0 d = trecvPay c n := by
  dsimp only [Rd]; rw [semN_val (by omega) hn, if_neg (by omega), if_neg (by omega), if_neg (by omega)]; congr 1; omega

theorem rest_bar : bigSep ((Rd xs ws).duties (barCell c) 0 \ ∅) (fun d => (Rd xs ws).payload (barCell c) 0 d)
    = iprop(barPay c 0 ∗ barPay c 1 ∗ barPay c 2 ∗ barPay c 3 ∗ barPay c 4 ∗ barPay c 5 ∗ barPay c 6) := by
  rw [Finset.sdiff_empty, duties_bar, bigSep_univ_eq_bigSepL [0, 1, 2, 3, 4, 5, 6] (by decide) (by decide)]
  simp only [bigSepL_cons_cons, bigSepL_singleton, payload_bar]
  rfl
theorem rest_d {k : ℕ} (hk : k < 4) (hn : n < 7) (h : k < 2 ∨ 2 ≤ n) :
    bigSep ((Rd xs ws).duties (dCell c k n) 0 \ ∅) (fun d => (Rd xs ws).payload (dCell c k n) 0 d) = (Rd xs ws).payload (dCell c k n) 0 0 := by
  rw [Finset.sdiff_empty, duties_d _ _ _ hk hn h, bigSep_singleton]

end Sched

/-! ## What a device owes, and the levels -/

/-- A payment of the protocol: kind 0 a unit of the barrier of step `n`'s partner, 1 the partial sum, 2 the token. -/
def dueCell (c : Dev nD) (x : ℕ × ℕ) : GSem nD τ sig :=
  if x.1 = 0 then barCell (ptn c x.2) else if x.1 = 1 then dCell (ptn c x.2) 1 x.2 else dCell (ptn c x.2) 3 x.2
def dueAmt (x : ℕ × ℕ) : ℕ := if x.1 = 0 then 1 else if x.1 = 1 then N else NT
def dueLv (x : ℕ × ℕ) : ℕ := if x.1 = 0 then 1 else if x.1 = 1 then 2 * x.2 + 3 else 2 * x.2 + 2

/-- The payments of a device, in the order in which it makes them. -/
abbrev ord : List (ℕ × ℕ) :=
  [(0, 0), (0, 1), (0, 2), (0, 3), (0, 4), (0, 5), (0, 6), (1, 0), (2, 2), (1, 1), (2, 3), (1, 2), (2, 4), (1, 3), (2, 5), (1, 4), (2, 6), (1, 5), (1, 6)]

/-- What is still owed when the payments `l` are left. -/
def owed (c : Dev nD) : List (ℕ × ℕ) → CellTallies nD τ sig Unit
  | [] => 0
  | x :: l => owed c l + tallyAt (dueCell c x) () (dueAmt x)

theorem owed_cons (c : Dev nD) (x : ℕ × ℕ) (l : List (ℕ × ℕ)) : owed c (x :: l) = owed c l + tallyAt (dueCell c x) () (dueAmt x) := by
  rw [owed]
theorem owed_bar (c : Dev nD) (n : ℕ) (l : List (ℕ × ℕ)) : owed c ((0, n) :: l) = owed c l + tallyAt (barCell (ptn c n)) () 1 := by
  rw [owed_cons, dueCell, dueAmt, if_pos rfl, if_pos rfl]
theorem owed_data (c : Dev nD) (n : ℕ) (l : List (ℕ × ℕ)) : owed c ((1, n) :: l) = owed c l + tallyAt (dCell (ptn c n) 1 n) () N := by
  rw [owed_cons, dueCell, dueAmt, if_neg Nat.one_ne_zero, if_neg Nat.one_ne_zero, if_pos rfl, if_pos rfl]
theorem owed_tok (c : Dev nD) (n : ℕ) (l : List (ℕ × ℕ)) : owed c ((2, n) :: l) = owed c l + tallyAt (dCell (ptn c n) 3 n) () NT := by
  rw [owed_cons, dueCell, dueAmt, if_neg (show ¬ (2 : ℕ) = 0 by decide), if_neg (show ¬ (2 : ℕ) = 1 by decide),
    if_neg (show ¬ (2 : ℕ) = 0 by decide), if_neg (show ¬ (2 : ℕ) = 1 by decide)]

def L (g : GSem nD τ sig) : Finset Unit := if g.1.2 = .tc then {()} else ∅
def lvq (q : ℕ) : ℕ := if q < 12 then 0 else if q < 19 then 2 * (q - 12) + 3 else if q < 26 then 0 else 2 * (q - 26) + 2
def lv (g : GSem nD τ sig) (_ : Unit) : ℕ := match g.2 with
  | .reg s => 1
  | .dma q => lvq q.val

theorem L_of_ne (g : GSem nD τ sig) (h : g.1.2 ≠ .tc) : L g = ∅ := if_neg h
theorem L_tc (c : Dev nD) (sm : SemLoc sig) : L ((c : Thread nD τ), sm) = {()} := if_pos rfl
theorem L_due (c : Dev nD) (x : ℕ × ℕ) : L (dueCell c x) = {()} := by unfold dueCell; (repeat' split) <;> exact L_tc _ _
theorem lv_d (c : Dev nD) {k n : ℕ} (hk : k < 4) (hn : n < 7) : lv (dCell c k n) () = lvq (5 + 7 * k + n) := by
  show lvq (semN k n).val = _; rw [semN_val hk hn]
theorem lv_due (c : Dev nD) (x : ℕ × ℕ) (hx : x.2 < 7) : lv (dueCell c x) () = dueLv x := by
  unfold dueCell dueLv
  split
  · rfl
  · split
    · rw [lv_d _ (by omega) hx]; unfold lvq; rw [if_neg (by omega), if_pos (by omega)]; omega
    · rw [lv_d _ (by omega) hx]; unfold lvq; rw [if_neg (by omega), if_neg (by omega), if_neg (by omega)]; omega

theorem owed_pos {c : Dev nD} {g : GSem nD τ sig} {u : Unit} : ∀ {l : List (ℕ × ℕ)}, 0 < owed c l g u → ∃ x ∈ l, g = dueCell c x
  | [], h => absurd h (Nat.lt_irrefl 0)
  | x :: l, h => by
    unfold owed at h
    rw [Pi.add_apply, Finsupp.add_apply, tallyAt_apply] at h
    by_cases hg : g = dueCell c x
    · exact ⟨x, List.mem_cons_self, hg⟩
    · rw [if_neg fun h' => hg h'.1] at h
      obtain ⟨y, hy, e⟩ := owed_pos (l := l) h
      exact ⟨y, List.mem_cons_of_mem _ hy, e⟩

/-- A wait on a cell below everything still owed. -/
theorem mayWait (c : Dev nD) (sm : SemLoc sig) (l : List (ℕ × ℕ)) (b : ℕ) (hb : lv ((c : Thread nD τ), sm) () ≤ b)
    (hl : ∀ x ∈ l, x.2 < 7 ∧ b < dueLv x) : (levAts L lv : sProp 𝕄) ⊢ MayWait (c : Thread nD τ) sm () (owed c l) :=
  MayOwe.of_cut (L := L) (lev := lv) b (fun p hp => by rw [Finset.mem_singleton.mp hp, L_tc]; exact Finset.mem_singleton_self _)
    (fun g u hg => by obtain ⟨x, hx, rfl⟩ := owed_pos hg; rw [L_due]; exact Finset.mem_singleton_self _)
    (fun p hp => by rw [Finset.mem_singleton.mp hp]; exact hb)
    (fun g u hg => by obtain ⟨x, hx, rfl⟩ := owed_pos hg; rw [lv_due _ _ (hl x hx).1]; exact (hl x hx).2)

/-! ## What every step of a device may use -/

/-- The invariants of all cells, at names `K`. -/
def invs (K : Dev nD × Fin 29 → ℕ) : sProp 𝕄 := bigSep Finset.univ (fun p => cellInv ER (Rd xs ws) (K p) (kcell p))

instance invs_persistent (K : Dev nD × Fin 29 → ℕ) : BI.Persistent (invs xs ws K) := by unfold invs; infer_instance

def ctx (K : Dev nD × Fin 29 → ℕ) : sProp 𝕄 := iprop(invs xs ws K ∗ levAts L lv)
instance ctx_persistent (K : Dev nD × Fin 29 → ℕ) : BI.Persistent (ctx xs ws K) := by unfold ctx; infer_instance

theorem ctx_bar (K : Dev nD × Fin 29 → ℕ) (c : Dev nD) : ctx xs ws K ⊢ cellInv ER (Rd xs ws) (K (c, 0)) (barCell c) := by
  unfold ctx invs
  exact sep_elim_left.trans (bigSep_elim (Φ := fun p => cellInv ER (Rd xs ws) (K p) (kcell p)) (Finset.mem_univ ((c, 0) : Dev nD × Fin 29)))
theorem ctx_d (K : Dev nD × Fin 29 → ℕ) (c : Dev nD) {k n : ℕ} (hk : k < 4) (hn : n < 7) :
    ctx xs ws K ⊢ cellInv ER (Rd xs ws) (K (c, cIdx k n)) (dCell c k n) := by
  have h : kcell (c, cIdx k n) = dCell c k n := by unfold kcell dCell; rw [csem_cIdx hk hn]
  unfold ctx invs
  rw [← h]
  exact sep_elim_left.trans (bigSep_elim (Φ := fun p => cellInv ER (Rd xs ws) (K p) (kcell p)) (Finset.mem_univ ((c, cIdx k n) : Dev nD × Fin 29)))
theorem ctx_lev (K : Dev nD × Fin 29 → ℕ) : ctx xs ws K ⊢ (levAts L lv : sProp 𝕄) := by
  unfold ctx; iintro ⟨-, H⟩; iexact H

end Cert.Run
-- ==== Proof.Steps.lean ====
/-
  One rule per kind of operation the kernel makes, at a symbolic device `c` and step `n`: reading the partner's number, the accesses of
  the buffers, the barrier, the transfer of a partial sum and its two waits, the token and its two waits, and the two conditional updates.
-/
module

public import proofs.«01_k».proof.Proof.Proto

@[expose] public section

set_option maxRecDepth 20000

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

abbrev PG (α : Type) : Type 1 := Prog (TpuEff nD τ sig (Elt F) Λ₀ .tc) α

/-- The kernel's program on device `c`. -/
abbrev WP (c : Dev nD) {α : Type} (p : PG (F := F) α) (Q : α → sProp 𝕄) : sProp 𝕄 :=
  wp frame (wpE (defs₀ (F := F)) 𝒱₀ (c : Thread nD τ) none) Set.univ p Q

variable {α : Type} {Q : α → sProp (MT nD τ sig Unit (Elt F) ℕ UU ℕ)}

/-! ## The partner's number -/

/-- The word the partner's number is read as; the word of the operation. -/
abbrev pw (c : Dev nD) (n : ℕ) : BitVec 32 := BitVec.ofNat 32 (ptn c n).val
abbrev ow (c : Dev nD) (n : ℕ) : BitVec 32 := BitVec.ofNat 32 (opc c n)

theorem dev_word : ∀ p : Dev nD, k0_dev1 (BitVec.ofNat 32 p.val) = p.val := by decide
theorem dev_eq {D : BitVec 32 → ℕ} (hD : D = k0_dev1) (c : Dev nD) (n : ℕ) {h : D (pw c n) < nD} : (⟨D (pw c n), h⟩ : Dev nD) = ptn c n := by
  subst hD; exact Fin.ext (dev_word _)
theorem chk (c : Dev nD) (n : ℕ) : k0_chk1 (pw c n) := by
  unfold k0_chk1; rw [dev_word]; exact (ptn c n).isLt

theorem wp_asm (c : Dev nD) {P : Prop} {d : Decidable P} {k : PLift P → PG (F := F) α} (h : P) :
    WP c (k ⟨h⟩) Q ⊢ WP c (.op (.assume P d) k) Q := by
  exact Entails.of_eq (wp_assume_of 𝒱₀ (c : Thread nD τ) none Set.univ (d := d) h).symm

/-- Device `c` holds buffer `b` whole at `f`. -/
abbrev hold (c : Dev nD) (b : Ref sig .tc) (f : Buf (Elt F) ((c : Thread nD τ).loc b)) : sProp 𝕄 := ((c : Thread nD τ).loc b) ↦{fullShare} f

theorem idx_S7 {n : ℕ} (h : ∀ a, (![n] : Fin 1 → ℕ) a + S1.size a ≤ S7.size a) (x : (Rect.unit (s := S7) ![n] S1.size h).shape.Idx) :
    (((Rect.unit (s := S7) ![n] S1.size h).emb x) 0).val = n := by
  have hx : (x 0).val < 1 := (x 0).isLt
  show n + 1 * (x 0).val = n
  omega

theorem wp_tab (c : Dev nD) (n : ℕ) {h : ∀ a, (![n] : Fin 1 → ℕ) a + S1.size a ≤ S7.size a} {h1} {hp} {k : BitVec 32 → PG (F := F) α} :
    hold (F := F) c cc0_stg0_0 (ptnRow c)
      ⊢ iprop((hold (F := F) c cc0_stg0_0 (ptnRow c) -∗ WP c (k (pw c n)) Q)
        -∗ WP c (smemLoad tabM (Rect.unit (s := S7) ![n] S1.size h) h1 hp >>= k) Q) := by
  unfold smemLoad smemLoadElt
  simp only [Prog.bind_op, Prog.bind_ret]
  iintro H Hk
  iapply (wp_load 𝒱₀ (c : Thread nD τ) none Set.univ (m := tabM) (Finset.subset_univ _)) $$ H; iintro H
  ihave Hk := Hk $$ H
  iexact Hk

theorem wp_opc (c : Dev nD) (n : ℕ) {h : ∀ a, (![n] : Fin 1 → ℕ) a + S1.size a ≤ S7.size a} {h1} {hp} {k : BitVec 32 → PG (F := F) α} :
    hold (F := F) c cc0_stg1_0 (opcRow c)
      ⊢ iprop((hold (F := F) c cc0_stg1_0 (opcRow c) -∗ WP c (k (ow c n)) Q)
        -∗ WP c (smemLoad opM (Rect.unit (s := S7) ![n] S1.size h) h1 hp >>= k) Q) := by
  unfold smemLoad smemLoadElt
  simp only [Prog.bind_op, Prog.bind_ret]
  iintro H Hk
  iapply (wp_load 𝒱₀ (c : Thread nD τ) none Set.univ (m := opM) (Finset.subset_univ _)) $$ H; iintro H
  ihave Hk := Hk $$ H
  iexact Hk

/-! ## Accesses of whole buffers -/

theorem hz : (![0, 0] : Fin 2 → Nat) = fun _ => 0 := funext fun a => by fin_cases a <;> rfl

abbrev rX : Rect S2048x64 := Rect.unit (s := S2048x64) ![0, 0] S2048x64.size inb_S2048x64_S2048x64_0_0
abbrev rW : Rect S64x2048 := Rect.unit (s := S64x2048) ![0, 0] S64x2048.size inb_S64x2048_S64x2048_0_0
abbrev rO : Rect S2048x2048 := Rect.unit (s := S2048x2048) ![0, 0] S2048x2048.size inb_S2048x2048_S2048x2048_0_0

theorem wp_ldX (c : Dev nD) (f : FVec F S2048x64 .bf16) {hl} {k : (rX.shape.Idx → Elt F .bf16) → PG (F := F) α} :
    hold (F := F) c cc0_stg2_0 f ⊢ iprop((hold (F := F) c cc0_stg2_0 f -∗ WP c (k f) Q) -∗ WP c (.op (.load xM rX.toLoadRect hl) k) Q) := by
  iintro H Hk
  iapply (wp_load 𝒱₀ (c : Thread nD τ) none Set.univ (m := xM) (Finset.subset_univ _)) $$ H; iintro H
  rw [show xM.view.readAt (Elt F) rX.toLoadRect f = f from Memref.readAt_unit_zero (Elt F) cc0_stg2_0 hz _ f]
  iapply Hk; iexact H
theorem wp_ldW (c : Dev nD) (f : FVec F S64x2048 .bf16) {hl} {k : (rW.shape.Idx → Elt F .bf16) → PG (F := F) α} :
    hold (F := F) c cc0_stg3_0 f ⊢ iprop((hold (F := F) c cc0_stg3_0 f -∗ WP c (k f) Q) -∗ WP c (.op (.load wM rW.toLoadRect hl) k) Q) := by
  iintro H Hk
  iapply (wp_load 𝒱₀ (c : Thread nD τ) none Set.univ (m := wM) (Finset.subset_univ _)) $$ H; iintro H
  rw [show wM.view.readAt (Elt F) rW.toLoadRect f = f from Memref.readAt_unit_zero (Elt F) cc0_stg3_0 hz _ f]
  iapply Hk; iexact H
theorem wp_ldO (c : Dev nD) (f : FVec F S2048x2048 .f32) {hl} {k : (rO.shape.Idx → Elt F .f32) → PG (F := F) α} :
    hold (F := F) c cc0_stg4_0 f ⊢ iprop((hold (F := F) c cc0_stg4_0 f -∗ WP c (k f) Q) -∗ WP c (.op (.load outM rO.toLoadRect hl) k) Q) := by
  iintro H Hk
  iapply (wp_load 𝒱₀ (c : Thread nD τ) none Set.univ (m := outM) (Finset.subset_univ _)) $$ H; iintro H
  rw [show outM.view.readAt (Elt F) rO.toLoadRect f = f from Memref.readAt_unit_zero (Elt F) cc0_stg4_0 hz _ f]
  iapply Hk; iexact H
theorem wp_stO (c : Dev nD) (f w : FVec F S2048x2048 .f32) {hx} {hm} {k : PUnit → PG (F := F) α} :
    hold (F := F) c cc0_stg4_0 f ⊢ iprop((hold (F := F) c cc0_stg4_0 w -∗ WP c (k ⟨⟩) Q) -∗ WP c (.op (.store outM rO w Finset.univ hx hm) k) Q) := by
  iintro H Hk
  iapply (wp_store 𝒱₀ (c : Thread nD τ) none Set.univ (m := outM) (r := rO) (Mk := Finset.univ) (Finset.subset_univ _)) $$ H; iintro H
  rw [show (outM.access rO : View sig .tc _ _ _).write (Elt F) f w Finset.univ = w from Memref.write_access_unit_zero_univ (Elt F) cc0_stg4_0 hz _ f w]
  iapply Hk; iexact H

theorem any_sb (c : Dev nD) : (anyAt (F := F) c sbM : sProp 𝕄) = iprop(∃ f, hold (F := F) c cc0_scratch0 f) := by
  unfold anyAt; simp only [Memref.view_whole, View.set_whole]
theorem any_ts (c : Dev nD) : (anyAt (F := F) c tsM : sProp 𝕄) = iprop(∃ f, hold (F := F) c cc0_scratch2 f) := by
  unfold anyAt; simp only [Memref.view_whole, View.set_whole]

/-- The send buffer's contents are read and not used. -/
theorem wp_ldS (c : Dev nD) {hl} {k : (rO.shape.Idx → Elt F .bf16) → PG (F := F) α} :
    anyAt (F := F) c sbM ⊢ iprop((∀ d, anyAt (F := F) c sbM -∗ WP c (k d) Q) -∗ WP c (.op (.load sbM rO.toLoadRect hl) k) Q) := by
  rw [any_sb]
  iintro ⟨%f, H⟩ Hk
  iapply (wp_load 𝒱₀ (c : Thread nD τ) none Set.univ (m := sbM) (Finset.subset_univ _)) $$ H; iintro H
  iapply Hk; iexists f; iexact H
theorem wp_stS (c : Dev nD) (w : FVec F S2048x2048 .bf16) {hx} {hm} {k : PUnit → PG (F := F) α} :
    anyAt (F := F) c sbM ⊢ iprop((hold (F := F) c cc0_scratch0 w -∗ WP c (k ⟨⟩) Q) -∗ WP c (.op (.store sbM rO w Finset.univ hx hm) k) Q) := by
  rw [any_sb]
  iintro ⟨%f, H⟩ Hk
  iapply (wp_store 𝒱₀ (c : Thread nD τ) none Set.univ (m := sbM) (r := rO) (Mk := Finset.univ) (Finset.subset_univ _)) $$ H; iintro H
  rw [show (sbM.access rO : View sig .tc _ _ _).write (Elt F) f w Finset.univ = w from Memref.write_access_unit_zero_univ (Elt F) cc0_scratch0 hz _ f w]
  iapply Hk; iexact H

/-! ## The landing slots and rows, and the semaphores, by their step -/

theorem slotP (n p : ℕ) {h} (hp : (n + 1) % 2 = p := by decide) : slotM p h = slotOf n := (slotOf_eq hp h).symm
theorem rowP (j : ℕ) {h} (hj : j < 7 := by decide) : rowM j h = rowOf j := (rowOf_eq hj h).symm

abbrev dmaS (A : DmaSems sig S7) (n : ℕ) (h : ∀ a, (![n] : Fin 1 → ℕ) a + S1.size a ≤ S7.size a) : DmaSem sig :=
  ((A.slice (Rect.unit (s := S7) ![n] S1.size h)).squeeze S_ squeezes_S1_S_).sem
theorem dmaS_lt {n : ℕ} (h : ∀ a, (![n] : Fin 1 → ℕ) a + S1.size a ≤ S7.size a) : n < 7 := h 0
theorem sem0 (n : ℕ) {h} : dmaS cc0_scratch4 n h = semN 0 n := by
  have := dmaS_lt h
  obtain rfl | rfl | rfl | rfl | rfl | rfl | rfl : n = 0 ∨ n = 1 ∨ n = 2 ∨ n = 3 ∨ n = 4 ∨ n = 5 ∨ n = 6 := by omega
  · exact (by decide : dmaS cc0_scratch4 0 inb_S7_S1_0 = semN 0 0)
  · exact (by decide : dmaS cc0_scratch4 1 inb_S7_S1_1 = semN 0 1)
  · exact (by decide : dmaS cc0_scratch4 2 inb_S7_S1_2 = semN 0 2)
  · exact (by decide : dmaS cc0_scratch4 3 inb_S7_S1_3 = semN 0 3)
  · exact (by decide : dmaS cc0_scratch4 4 inb_S7_S1_4 = semN 0 4)
  · exact (by decide : dmaS cc0_scratch4 5 inb_S7_S1_5 = semN 0 5)
  · exact (by decide : dmaS cc0_scratch4 6 inb_S7_S1_6 = semN 0 6)
theorem sem1 (n : ℕ) {h} : dmaS cc0_scratch5 n h = semN 1 n := by
  have := dmaS_lt h
  obtain rfl | rfl | rfl | rfl | rfl | rfl | rfl : n = 0 ∨ n = 1 ∨ n = 2 ∨ n = 3 ∨ n = 4 ∨ n = 5 ∨ n = 6 := by omega
  · exact (by decide : dmaS cc0_scratch5 0 inb_S7_S1_0 = semN 1 0)
  · exact (by decide : dmaS cc0_scratch5 1 inb_S7_S1_1 = semN 1 1)
  · exact (by decide : dmaS cc0_scratch5 2 inb_S7_S1_2 = semN 1 2)
  · exact (by decide : dmaS cc0_scratch5 3 inb_S7_S1_3 = semN 1 3)
  · exact (by decide : dmaS cc0_scratch5 4 inb_S7_S1_4 = semN 1 4)
  · exact (by decide : dmaS cc0_scratch5 5 inb_S7_S1_5 = semN 1 5)
  · exact (by decide : dmaS cc0_scratch5 6 inb_S7_S1_6 = semN 1 6)
theorem sem2 (n : ℕ) {h} : dmaS cc0_scratch6 n h = semN 2 n := by
  have := dmaS_lt h
  obtain rfl | rfl | rfl | rfl | rfl | rfl | rfl : n = 0 ∨ n = 1 ∨ n = 2 ∨ n = 3 ∨ n = 4 ∨ n = 5 ∨ n = 6 := by omega
  · exact (by decide : dmaS cc0_scratch6 0 inb_S7_S1_0 = semN 2 0)
  · exact (by decide : dmaS cc0_scratch6 1 inb_S7_S1_1 = semN 2 1)
  · exact (by decide : dmaS cc0_scratch6 2 inb_S7_S1_2 = semN 2 2)
  · exact (by decide : dmaS cc0_scratch6 3 inb_S7_S1_3 = semN 2 3)
  · exact (by decide : dmaS cc0_scratch6 4 inb_S7_S1_4 = semN 2 4)
  · exact (by decide : dmaS cc0_scratch6 5 inb_S7_S1_5 = semN 2 5)
  · exact (by decide : dmaS cc0_scratch6 6 inb_S7_S1_6 = semN 2 6)
theorem sem3 (n : ℕ) {h} : dmaS cc0_scratch7 n h = semN 3 n := by
  have := dmaS_lt h
  obtain rfl | rfl | rfl | rfl | rfl | rfl | rfl : n = 0 ∨ n = 1 ∨ n = 2 ∨ n = 3 ∨ n = 4 ∨ n = 5 ∨ n = 6 := by omega
  · exact (by decide : dmaS cc0_scratch7 0 inb_S7_S1_0 = semN 3 0)
  · exact (by decide : dmaS cc0_scratch7 1 inb_S7_S1_1 = semN 3 1)
  · exact (by decide : dmaS cc0_scratch7 2 inb_S7_S1_2 = semN 3 2)
  · exact (by decide : dmaS cc0_scratch7 3 inb_S7_S1_3 = semN 3 3)
  · exact (by decide : dmaS cc0_scratch7 4 inb_S7_S1_4 = semN 3 4)
  · exact (by decide : dmaS cc0_scratch7 5 inb_S7_S1_5 = semN 3 5)
  · exact (by decide : dmaS cc0_scratch7 6 inb_S7_S1_6 = semN 3 6)

/-! ## What a device holds of the protocol -/

variable (xs : Dev nD → FVec F S2048x64 .bf16) (ws : Dev nD → FVec F S64x2048 .bf16) (K : Dev nD × Fin 29 → ℕ)

/-- The payments `l` are left to make. -/
def owing (c : Dev nD) (l : List (ℕ × ℕ)) : sProp 𝕄 := iprop(∃ W, owes (c : Thread nD τ) (owed c l) W)

/-- What a device starts step `n`'s transfer with; what it has after sending; after the first wait; after both. -/
def stA (c : Dev nD) (n : ℕ) : sProp 𝕄 :=
  iprop(dutyTok ER (dCell c 0 n) 0 0 ∗ reached ER (dCell c 0 n) 0 ∗ dutyTok ER (dCell (ptn c n) 1 n) 0 0
    ∗ atPos ER (dCell c 0 n) 0 ∅ 0 ∗ atPos ER (dCell c 1 n) 0 ∅ 0 ∗ cred (tallyAt (dCell c 1 n) () N))
def stB (c : Dev nD) (n : ℕ) : sProp 𝕄 :=
  iprop(cred (tallyAt (dCell c 0 n) () N) ∗ atPos ER (dCell c 0 n) 0 ∅ 0 ∗ atPos ER (dCell c 1 n) 0 ∅ 0 ∗ cred (tallyAt (dCell c 1 n) () N))
def stC (c : Dev nD) (n : ℕ) : sProp 𝕄 :=
  iprop(semVal (dCell c 0 n) 0 ∗ atPos ER (dCell c 1 n) 0 ∅ 0 ∗ cred (tallyAt (dCell c 1 n) () N))
def stD (c : Dev nD) (n : ℕ) : sProp 𝕄 := iprop(semVal (dCell c 0 n) 0 ∗ semVal (dCell c 1 n) 0)

/-- The same of the token `j`. -/
def tkA (c : Dev nD) (j : ℕ) : sProp 𝕄 :=
  iprop(dutyTok ER (dCell c 2 j) 0 0 ∗ reached ER (dCell c 2 j) 0 ∗ dutyTok ER (dCell (ptn c j) 3 j) 0 0
    ∗ atPos ER (dCell c 2 j) 0 ∅ 0 ∗ atPos ER (dCell c 3 j) 0 ∅ 0 ∗ cred (tallyAt (dCell c 3 j) () NT))
def tkB (c : Dev nD) (j : ℕ) : sProp 𝕄 :=
  iprop(cred (tallyAt (dCell c 2 j) () NT) ∗ atPos ER (dCell c 2 j) 0 ∅ 0 ∗ atPos ER (dCell c 3 j) 0 ∅ 0 ∗ cred (tallyAt (dCell c 3 j) () NT))
def tkC (c : Dev nD) (j : ℕ) : sProp 𝕄 :=
  iprop(semVal (dCell c 2 j) 0 ∗ atPos ER (dCell c 3 j) 0 ∅ 0 ∗ cred (tallyAt (dCell c 3 j) () NT))
def tkD (c : Dev nD) (j : ℕ) : sProp 𝕄 := iprop(semVal (dCell c 2 j) 0 ∗ semVal (dCell c 3 j) 0)

theorem ctx_wait (c : Dev nD) (sm : SemLoc sig) (l : List (ℕ × ℕ)) (b : ℕ) (hb : lv ((c : Thread nD τ), sm) () ≤ b)
    (hl : ∀ x ∈ l, x.2 < 7 ∧ b < dueLv x) : (ctx xs ws K : sProp 𝕄) ⊢ MayWait (c : Thread nD τ) sm () (owed c l) := by
  have h1 : (ctx xs ws K : sProp 𝕄) ⊢ (levAts L lv : sProp 𝕄) := ctx_lev xs ws K
  have h2 : (levAts L lv : sProp 𝕄) ⊢ MayWait (c : Thread nD τ) sm () (owed c l) := mayWait c sm l b hb hl
  exact h1.trans h2

/-! ## The barrier -/

theorem wp_sig (c : Dev nD) (n : ℕ) (l : List (ℕ × ℕ)) {d : Dev nD} (hd : d = ptn c n) (hn : n < 7 := by decide) {k : PUnit → PG (F := F) α} :
    iprop(ctx xs ws K ∗ owing (F := F) c ((0, n) :: l) ∗ dutyTok ER (barCell (ptn c n)) 0 (⟨n, hn⟩ : Fin 7)
        ∗ reached ER (barCell (ptn c n)) 0 ∗ barPay (F := F) (ptn c n) n)
      ⊢ iprop((owing (F := F) c l -∗ WP c (k ⟨⟩) Q) -∗ WP c (semSignalWord d barS 1#32 >>= k) Q) := by
  subst hd
  unfold semSignalWord owing
  simp only [Prog.bind_op, Prog.bind_ret]
  iintro ⟨#Hc, ⟨%W, HO⟩, Ht, #Hr, Hp⟩ Hk
  iapply (Rounds.wp_signal 𝒱₀ ER (Rd xs ws) (c : Thread nD τ) none (dst := (ptn c n : Thread nD τ)) (κ := K (ptn c n, 0))
      (d := (⟨n, hn⟩ : Fin 7)) (by rw [duties_bar]; exact Finset.mem_univ _) ((amount_bar xs ws (ptn c n) ⟨n, hn⟩).trans (by decide)) () (owed c l) (owed_bar c n l))
    $$ [HO Ht Hp]
  · isplitr; · iapply (ctx_bar xs ws K (ptn c n)); iexact Hc
    isplitl [HO]; · iexact HO
    isplitl [Ht]; · iexact Ht
    isplitl [Hp]; · rw [payload_bar]; iexact Hp
    iexact Hr
  iintro HO
  iapply Hk; iexists W; iexact HO

theorem wp_bar (c : Dev nD) (l : List (ℕ × ℕ)) (hl : ∀ x ∈ l, x.2 < 7 ∧ 1 < dueLv x) {k : PUnit → PG (F := F) α} :
    iprop(ctx xs ws K ∗ owing (F := F) c l ∗ cred (tallyAt (barCell c) () 7) ∗ atPos ER (barCell c) 0 ∅ 0)
      ⊢ iprop(((owing (F := F) c l ∗ semVal (barCell c) 0
            ∗ barPay c 0 ∗ barPay c 1 ∗ barPay c 2 ∗ barPay c 3 ∗ barPay c 4 ∗ barPay c 5 ∗ barPay c 6) -∗ WP c (k ⟨⟩) Q)
          -∗ WP c (semWaitWord barS 7#32 >>= k) Q) := by
  unfold semWaitWord owing
  simp only [Prog.bind_op, Prog.bind_ret]
  iintro ⟨#Hc, ⟨%W, HO⟩, Hcr, Hat⟩ Hk
  iapply (Rounds.wp_wait_rest_token 𝒱₀ ER (Rd xs ws) (c : Thread nD τ) none (κ := K (c, 0))
      (wpE_semWait_eq 𝒱₀ (c : Thread nD τ) none Set.univ) (Set.mem_univ _) () (O := owed c l) (W := W) (R := 0) (m := 0) (T := ∅)
      (by rw [expect_bar]; decide)) $$ [Hcr HO Hat]
  · isplitr; · iapply (ctx_bar xs ws K c); iexact Hc
    isplitl [Hcr]; · iexact Hcr
    isplitl [HO]; · iexact HO
    isplitr; · iapply (ctx_wait xs ws K c (.reg barS) l 1 (le_refl _) hl); iexact Hc
    iexact Hat
  iintro ⟨HO, Hat, -, Hpay⟩
  ihave Hp := (Entails.of_eq (rest_bar xs ws c)) $$ Hpay
  imod (Rounds.cell_close ER (Rd xs ws) (Set.mem_univ (K (c, 0))) (fun h => h) (R := 0 + 1) (duties_later xs ws (barCell c))) $$ [Hat] with Hz
  · isplitr; · iapply (ctx_bar xs ws K c); iexact Hc
    iexact Hat
  iapply Hk
  isplitl [HO]; · iexists _; iexact HO
  isplitl [Hz]; · iexact Hz
  iexact Hp

/-! ## Waiting for an own DMA cell, then closing it -/

theorem wp_dwait (c : Dev nD) (k₀ n : ℕ) (hk : k₀ < 4) (hn : n < 7) (hd : k₀ < 2 ∨ 2 ≤ n) (l : List (ℕ × ℕ)) (hl : ∀ x ∈ l, x.2 < 7 ∧ lvq (5 + 7 * k₀ + n) < dueLv x)
    {M : ℕ} (hM : (Rd xs ws).expect (dCell c k₀ n) 0 = M)
    {q : DmaSem sig} (hq : q = semN k₀ n) {sp sp' : Space} {s : Shape} {e : EltTy} {src : Memref sig .tc sp s e} {dst : Memref sig .tc sp' s e}
    {h1} {h2} (ha : dst.view.dmaCredit = M) {k : PUnit → PG (F := F) α} :
    iprop(ctx xs ws K ∗ owing (F := F) c l ∗ cred (tallyAt (dCell c k₀ n) () M) ∗ atPos ER (dCell c k₀ n) 0 ∅ 0)
      ⊢ iprop(((owing (F := F) c l ∗ semVal (dCell c k₀ n) 0 ∗ (Rd xs ws).payload (dCell c k₀ n) 0 0) -∗ WP c (k ⟨⟩) Q)
          -∗ WP c (.op (.waitDma2 q src dst h1 h2) k) Q) := by
  subst hq
  unfold owing
  iintro ⟨#Hc, ⟨%W, HO⟩, Hcr, Hat⟩ Hk
  subst ha
  iapply (Rounds.wp_wait_rest_token 𝒱₀ ER (Rd xs ws) (c : Thread nD τ) none (κ := K (c, cIdx k₀ n))
      (wpE_waitDma2_eq 𝒱₀ (c : Thread nD τ) none Set.univ) (Set.mem_univ _) () (O := owed c l) (W := W) (R := 0) (m := 0) (T := ∅)
      (by rw [Nat.zero_add, hM])) $$ [Hcr HO Hat]
  · isplitr; · iapply (ctx_d xs ws K c hk hn); iexact Hc
    isplitl [Hcr]; · iexact Hcr
    isplitl [HO]; · iexact HO
    isplitr; · iapply (ctx_wait xs ws K c (.dma (semN k₀ n)) l _ (le_of_eq (lv_d c hk hn)) hl); iexact Hc
    iexact Hat
  iintro ⟨HO, Hat, -, Hpay⟩
  ihave Hp := (Entails.of_eq (rest_d xs ws c hk hn hd)) $$ Hpay
  imod (Rounds.cell_close ER (Rd xs ws) (Set.mem_univ (K (c, cIdx k₀ n))) (fun h => h) (R := 0 + 1) (duties_later xs ws (dCell c k₀ n))) $$ [Hat] with Hz
  · isplitr; · iapply (ctx_d xs ws K c hk hn); iexact Hc
    iexact Hat
  iapply Hk
  isplitl [HO]; · iexists _; iexact HO
  isplitl [Hz]; · iexact Hz
  iexact Hp

theorem any_def (c : Dev nD) {sp : Space} {s : Shape} {e : EltTy} (M : Memref sig .tc sp s e) :
    (anyAt (F := F) c M : sProp 𝕄) = iprop(∃ f : Buf (Elt F) (M.view.loc (c : Thread nD τ)), M.view.loc (c : Thread nD τ) ↦[M.view.set]{fullShare} f) := rfl

/-! ## The transfer of a partial sum -/

theorem hold_sb (c : Dev nD) (w : FVec F S2048x2048 .bf16) :
    (hold (F := F) c cc0_scratch0 w : sProp 𝕄) = (sbM.view.loc (c : Thread nD τ) ↦[sbM.view.set]{fullShare} w) := by
  simp only [Memref.view_whole, View.set_whole]

theorem send_pay (c : Dev nD) (n : ℕ) (hn : n < 7) :
    (sbM.view.loc (c : Thread nD τ) ↦[sbM.view.set]{fullShare} (cut (val xs ws n c)) : sProp 𝕄) ⊢ (Rd xs ws).payload (dCell c 0 n) 0 0 := by
  rw [payload_send _ _ _ hn, any_def]; iintro H; iexists _; iexact H

theorem land_pay (c : Dev nD) (n : ℕ) (hn : n < 7) (fd : Buf (Elt F) ((slotOf n).view.loc (ptn c n : Thread nD τ))) :
    ((slotOf n).view.loc (ptn c n : Thread nD τ) ↦[(slotOf n).view.set]{fullShare}
      ((slotOf n).view.write (Elt F) fd (sbM.view.read (Elt F) (cut (val xs ws n c))) Finset.univ) : sProp 𝕄)
      ⊢ (Rd xs ws).payload (dCell (ptn c n) 1 n) 0 0 := by
  rw [payload_recv _ _ _ hn]; unfold recvPay owns; rw [ptn_ptn c hn]
  have e : sbM.view.read (Elt F) (cut (val xs ws n c)) = cut (val xs ws n c) := View.read_whole _ _
  have e2 : (slotOf n).view.read (Elt F) ((slotOf n).view.write (Elt F) fd (sbM.view.read (Elt F) (cut (val xs ws n c))) Finset.univ) = cut (val xs ws n c) :=
    (View.read_write_univ _ _).trans e
  iintro H; iexists ((slotOf n).view.write (Elt F) fd (sbM.view.read (Elt F) (cut (val xs ws n c))) Finset.univ)
  isplitr
  · ipureintro; exact e2
  iexact H

theorem wp_data (c : Dev nD) (n : ℕ) (l : List (ℕ × ℕ)) {d : Dev nD} (hd : d = ptn c n)
    {M : Memref sig .tc .vmem S2048x2048 .bf16} (hM : M = slotOf n) {qs qr : DmaSem sig} (hs : qs = semN 0 n) (hr : qr = semN 1 n)
    {hsc} {hsrc} {hdst} {hsem} (hn : n < 7 := by decide) {k : PUnit → PG (F := F) α} :
    iprop(ctx xs ws K ∗ owing (F := F) c ((1, n) :: l) ∗ stA (F := F) c n ∗ goPay (F := F) c n ∗ hold (F := F) c cc0_scratch0 (cut (val xs ws n c)))
      ⊢ iprop(((owing (F := F) c l ∗ stB (F := F) c n) -∗ WP c (k ⟨⟩) Q)
          -∗ WP c (.op (.enqueueDma sbM (.remote (Dev.tc d : Thread nD τ) M (.dma qs) hsc) (.dma qr) hsrc hdst hsem) k) Q) := by
  subst hd hM hs hr
  unfold owing stA stB goPay
  rw [hold_sb]
  iintro ⟨#Hc, ⟨%W, HO⟩, ⟨Ht0, #Hr0, Ht1, Ha0, Ha1, Hcr⟩, ⟨#Hr1, Hd⟩, Hs⟩ Hk
  ihave Hd := (Entails.of_eq (any_def (ptn c n) (slotOf n))) $$ Hd
  icases Hd with ⟨%fd, Hd⟩
  iapply (Rounds.wp_send_pointsTo 𝒱₀ ER (Rd xs ws) (c : Thread nD τ) none (κ₁ := K (c, cIdx 0 n)) (κ₂ := K (ptn c n, cIdx 1 n))
    (c' := (ptn c n : Thread nD τ)) (src := sbM) (dst := slotOf n) (sS := .dma (semN 0 n)) (sem := .dma (semN 1 n)) (q := fullShare) (fs := cut (val xs ws n c))
    (r₁ := 0) (r₂ := 0) (d₁ := 0) (d₂ := 0) (fd := fd)
    (by rw [duties_d _ _ _ (by decide) hn (.inl (by decide))]; exact Finset.mem_singleton_self _)
    (by rw [duties_d _ _ _ (by decide) hn (.inl (by decide))]; exact Finset.mem_singleton_self _)
    () () N (slotOf_credit n) (amount_d xs ws c (by decide) hn 0) (amount_d xs ws (ptn c n) (by decide) hn 0) (owed c l) (owed_data c n l) (W := W)
    (send_pay xs ws c n hn) (land_pay xs ws c n hn fd)) $$ [HO Ht0 Ht1 Hd Hs]
  · isplitr; · iapply (ctx_d xs ws K c (by decide) hn); iexact Hc
    isplitr; · iapply (ctx_d xs ws K (ptn c n) (by decide) hn); iexact Hc
    isplitl [Hs]; · iexact Hs
    isplitl [Hd]; · iexact Hd
    isplitl [HO]; · iexact HO
    isplitl [Ht0]; · iexact Ht0
    isplitr; · iexact Hr0
    isplitl [Ht1]; · iexact Ht1
    iexact Hr1
  iintro ⟨Hcs, HO⟩
  iapply Hk
  isplitl [HO]; · iexists W; iexact HO
  isplitl [Hcs]; · iexact Hcs
  isplitl [Ha0]; · iexact Ha0
  isplitl [Ha1]; · iexact Ha1
  iexact Hcr

theorem wp_waitS (c : Dev nD) (n : ℕ) (l : List (ℕ × ℕ)) (hl : ∀ x ∈ l, x.2 < 7 ∧ lvq (5 + 7 * 0 + n) < dueLv x)
    {M : Memref sig .tc .vmem S2048x2048 .bf16} {q : DmaSem sig} (hq : q = semN 0 n) {h1} {h2} (hn : n < 7 := by decide) {k : PUnit → PG (F := F) α} :
    iprop(ctx xs ws K ∗ owing (F := F) c l ∗ stB (F := F) c n)
      ⊢ iprop(((owing (F := F) c l ∗ stC (F := F) c n ∗ anyAt (F := F) c sbM) -∗ WP c (k ⟨⟩) Q)
          -∗ WP c (.op (.waitDma2 q M sbM h1 h2) k) Q) := by
  unfold stB stC
  iintro ⟨#Hc, HO, ⟨Hcs, Ha0, Ha1, Hcr⟩⟩ Hk
  iapply (wp_dwait xs ws K c 0 n (by decide) hn (.inl (by decide)) l hl (expect_d xs ws c (by decide) hn) hq sb_credit) $$ [HO Hcs Ha0]
  · isplitr; · iexact Hc
    isplitl [HO]; · iexact HO
    isplitl [Hcs]; · iexact Hcs
    iexact Ha0
  rw [payload_send _ _ _ hn]
  iintro ⟨HO, Hz, Hp⟩
  iapply Hk
  isplitl [HO]; · iexact HO
  isplitl [Hz Ha1 Hcr]
  · isplitl [Hz]; · iexact Hz
    isplitl [Ha1]; · iexact Ha1
    iexact Hcr
  iexact Hp

theorem wp_waitR (c : Dev nD) (n : ℕ) (l : List (ℕ × ℕ)) (hl : ∀ x ∈ l, x.2 < 7 ∧ lvq (5 + 7 * 1 + n) < dueLv x)
    {M : Memref sig .tc .vmem S2048x2048 .bf16} (hM : M = slotOf n) {q : DmaSem sig} (hq : q = semN 1 n) {h1} {h2} (hn : n < 7 := by decide)
    {k : PUnit → PG (F := F) α} :
    iprop(ctx xs ws K ∗ owing (F := F) c l ∗ stC (F := F) c n)
      ⊢ iprop(((owing (F := F) c l ∗ stD (F := F) c n ∗ recvPay xs ws c n) -∗ WP c (k ⟨⟩) Q)
          -∗ WP c (.op (.waitDma2 q sbM M h1 h2) k) Q) := by
  subst hM
  unfold stC stD
  iintro ⟨#Hc, HO, ⟨Hz0, Ha1, Hcr⟩⟩ Hk
  iapply (wp_dwait xs ws K c 1 n (by decide) hn (.inl (by decide)) l hl (expect_d xs ws c (by decide) hn) hq (slotOf_credit n)) $$ [HO Hcr Ha1]
  · isplitr; · iexact Hc
    isplitl [HO]; · iexact HO
    isplitl [Hcr]; · iexact Hcr
    iexact Ha1
  rw [payload_recv _ _ _ hn]
  iintro ⟨HO, Hz, Hp⟩
  iapply Hk
  isplitl [HO]; · iexact HO
  isplitl [Hz0 Hz]
  · isplitl [Hz0]; · iexact Hz0
    iexact Hz
  iexact Hp

/-! ## The token -/

theorem any_ts' (c : Dev nD) : (anyAt (F := F) c tsM : sProp 𝕄) = iprop(∃ f, tsM.view.loc (c : Thread nD τ) ↦[tsM.view.set]{fullShare} f) := rfl

/-- What has landed is done with: its slot is free. -/
theorem recv_any (c : Dev nD) (n : ℕ) : recvPay xs ws c n ⊢ anyAt (F := F) c (slotOf n) := by
  unfold recvPay owns anyAt
  iintro ⟨%f, -, H⟩; iexists f; iexact H

theorem tsend_pay (c : Dev nD) (j : ℕ) (hn : j < 7) (fs : Buf (Elt F) (tsM.view.loc (c : Thread nD τ))) :
    (tsM.view.loc (c : Thread nD τ) ↦[tsM.view.set]{fullShare} fs : sProp 𝕄) ⊢ (Rd xs ws).payload (dCell c 2 j) 0 0 := by
  rw [payload_tsend _ _ _ hn, any_def]; iintro H; iexists _; iexact H

theorem tland_pay (c : Dev nD) (j : ℕ) (hn : j < 7) (fd : Buf (Elt F) ((rowOf j).view.loc (ptn c j : Thread nD τ)))
    (fs : Buf (Elt F) (tsM.view.loc (c : Thread nD τ))) :
    iprop(((rowOf j).view.loc (ptn c j : Thread nD τ) ↦[(rowOf j).view.set]{fullShare}
      ((rowOf j).view.write (Elt F) fd (tsM.view.read (Elt F) fs) Finset.univ)) ∗ (anyAt (F := F) c (slotOf j) : sProp 𝕄))
      ⊢ (Rd xs ws).payload (dCell (ptn c j) 3 j) 0 0 := by
  rw [payload_trecv _ _ _ hn]; unfold trecvPay; rw [ptn_ptn c hn, any_def (ptn c j)]
  iintro ⟨H, HF⟩
  isplitl [H]; · iexists _; iexact H
  iexact HF

theorem wp_tok (c : Dev nD) (j : ℕ) (l : List (ℕ × ℕ)) {d : Dev nD} (hd : d = ptn c j)
    {M : Memref sig .tc .vmem S8x128 .f32} (hM : M = rowOf j) {qs qr : DmaSem sig} (hs : qs = semN 2 j) (hr : qr = semN 3 j)
    {hsc} {hsrc} {hdst} {hsem} (hn : j < 7 := by decide) (h2 : 2 ≤ j := by decide) {k : PUnit → PG (F := F) α} :
    iprop(ctx xs ws K ∗ owing (F := F) c ((2, j) :: l) ∗ tkA (F := F) c j ∗ tkPay (F := F) c j ∗ anyAt (F := F) c tsM ∗ anyAt (F := F) c (slotOf j))
      ⊢ iprop(((owing (F := F) c l ∗ tkB (F := F) c j) -∗ WP c (k ⟨⟩) Q)
          -∗ WP c (.op (.enqueueDma tsM (.remote (Dev.tc d : Thread nD τ) M (.dma qs) hsc) (.dma qr) hsrc hdst hsem) k) Q) := by
  subst hd hM hs hr
  rw [any_ts']
  unfold owing tkA tkB tkPay
  iintro ⟨#Hc, ⟨%W, HO⟩, ⟨Ht0, #Hr0, Ht1, Ha0, Ha1, Hcr⟩, ⟨#Hr1, Hd⟩, ⟨%fs, Hs⟩, Hfree⟩ Hk
  ihave Hd := (Entails.of_eq (any_def (ptn c j) (rowOf j))) $$ Hd
  icases Hd with ⟨%fd, Hd⟩
  iapply (Rounds.wp_send_pointsTo_with 𝒱₀ ER (Rd xs ws) (c : Thread nD τ) none (κ₁ := K (c, cIdx 2 j)) (κ₂ := K (ptn c j, cIdx 3 j))
    (c' := (ptn c j : Thread nD τ)) (src := tsM) (dst := rowOf j) (sS := .dma (semN 2 j)) (sem := .dma (semN 3 j)) (q := fullShare) (fs := fs)
    (r₁ := 0) (r₂ := 0) (d₁ := 0) (d₂ := 0) (fd := fd) (F := anyAt (F := F) c (slotOf j))
    (by rw [duties_d _ _ _ (by decide) hn (.inr h2)]; exact Finset.mem_singleton_self _)
    (by rw [duties_d _ _ _ (by decide) hn (.inr h2)]; exact Finset.mem_singleton_self _)
    () () NT (rowOf_credit j) (amount_t xs ws c (by decide) (by decide) hn 0) (amount_t xs ws (ptn c j) (by decide) (by decide) hn 0) (owed c l) (owed_tok c j l) (W := W)
    (tsend_pay xs ws c j hn fs) (tland_pay xs ws c j hn fd fs)) $$ [HO Ht0 Ht1 Hd Hs Hfree]
  · isplitr; · iapply (ctx_d xs ws K c (by decide) hn); iexact Hc
    isplitr; · iapply (ctx_d xs ws K (ptn c j) (by decide) hn); iexact Hc
    isplitl [Hs]; · iexact Hs
    isplitl [Hd Hfree]
    · isplitl [Hd]; · iexact Hd
      iexact Hfree
    isplitl [HO]; · iexact HO
    isplitl [Ht0]; · iexact Ht0
    isplitr; · iexact Hr0
    isplitl [Ht1]; · iexact Ht1
    iexact Hr1
  iintro ⟨Hcs, HO⟩
  iapply Hk
  isplitl [HO]; · iexists W; iexact HO
  isplitl [Hcs]; · iexact Hcs
  isplitl [Ha0]; · iexact Ha0
  isplitl [Ha1]; · iexact Ha1
  iexact Hcr

theorem wp_waitTS (c : Dev nD) (j : ℕ) (l : List (ℕ × ℕ)) (hl : ∀ x ∈ l, x.2 < 7 ∧ lvq (5 + 7 * 2 + j) < dueLv x)
    {M : Memref sig .tc .vmem S8x128 .f32} {q : DmaSem sig} (hq : q = semN 2 j) {h1} {h2} (hn : j < 7 := by decide) (h2' : 2 ≤ j := by decide)
    {k : PUnit → PG (F := F) α} :
    iprop(ctx xs ws K ∗ owing (F := F) c l ∗ tkB (F := F) c j)
      ⊢ iprop(((owing (F := F) c l ∗ tkC (F := F) c j ∗ anyAt (F := F) c tsM) -∗ WP c (k ⟨⟩) Q)
          -∗ WP c (.op (.waitDma2 q M tsM h1 h2) k) Q) := by
  unfold tkB tkC
  iintro ⟨#Hc, HO, ⟨Hcs, Ha0, Ha1, Hcr⟩⟩ Hk
  iapply (wp_dwait xs ws K c 2 j (by decide) hn (.inr h2') l hl (expect_t xs ws c (by decide) (by decide) hn h2') hq ts_credit) $$ [HO Hcs Ha0]
  · isplitr; · iexact Hc
    isplitl [HO]; · iexact HO
    isplitl [Hcs]; · iexact Hcs
    iexact Ha0
  rw [payload_tsend _ _ _ hn]
  iintro ⟨HO, Hz, Hp⟩
  iapply Hk
  isplitl [HO]; · iexact HO
  isplitl [Hz Ha1 Hcr]
  · isplitl [Hz]; · iexact Hz
    isplitl [Ha1]; · iexact Ha1
    iexact Hcr
  iexact Hp

/-- The partner's token: the own landing row back, and the partner's landing slot to send the partial sum of step `j` into. -/
theorem wp_waitTR (c : Dev nD) (j : ℕ) (l : List (ℕ × ℕ)) (hl : ∀ x ∈ l, x.2 < 7 ∧ lvq (5 + 7 * 3 + j) < dueLv x)
    {M : Memref sig .tc .vmem S8x128 .f32} (hM : M = rowOf j) {q : DmaSem sig} (hq : q = semN 3 j) {h1} {h2} (hn : j < 7 := by decide)
    (h2' : 2 ≤ j := by decide) {k : PUnit → PG (F := F) α} :
    iprop(ctx xs ws K ∗ owing (F := F) c l ∗ tkC (F := F) c j ∗ reached ER (dCell (ptn c j) 1 j) 0)
      ⊢ iprop(((owing (F := F) c l ∗ tkD (F := F) c j ∗ anyAt (F := F) c (rowOf j) ∗ goPay (F := F) c j) -∗ WP c (k ⟨⟩) Q)
          -∗ WP c (.op (.waitDma2 q tsM M h1 h2) k) Q) := by
  subst hM
  unfold tkC tkD goPay
  iintro ⟨#Hc, HO, ⟨Hz0, Ha1, Hcr⟩, #Hr⟩ Hk
  iapply (wp_dwait xs ws K c 3 j (by decide) hn (.inr h2') l hl (expect_t xs ws c (by decide) (by decide) hn h2') hq (rowOf_credit j)) $$ [HO Hcr Ha1]
  · isplitr; · iexact Hc
    isplitl [HO]; · iexact HO
    isplitl [Hcr]; · iexact Hcr
    iexact Ha1
  rw [payload_trecv _ _ _ hn]
  unfold trecvPay
  iintro ⟨HO, Hz, Hp, Hs⟩
  iapply Hk
  isplitl [HO]; · iexact HO
  isplitl [Hz0 Hz]
  · isplitl [Hz0]; · iexact Hz0
    iexact Hz
  isplitl [Hp]; · iexact Hp
  isplitr; · iexact Hr
  iexact Hs

/-! ## The conditional updates -/

abbrev rB (p : ℕ) (h : ∀ a, (![p, 0, 0] : Fin 3 → ℕ) a + S1x2048x2048.size a ≤ S2x2048x2048.size a) : Rect S2x2048x2048 :=
  Rect.unit (s := S2x2048x2048) ![p, 0, 0] S1x2048x2048.size h

/-- Reading a landing slot as a block of the landing buffer. -/
theorem wp_ldB (c : Dev nD) (n p : ℕ) {h} (hp : slotM p h = slotOf n) (B : FVec F S2048x2048 .bf16) {hl}
    {k : ((rB p h).shape.Idx → Elt F .bf16) → PG (F := F) α} :
    (owns (c : Thread nD τ) (slotOf n) fullShare B : sProp 𝕄)
      ⊢ iprop((∀ v : Vec F S1x2048x2048 .bf16, ⌜shapeCast S2048x2048 v shapeCasts_S1x2048x2048_S2048x2048 = B⌝ -∗ owns (c : Thread nD τ) (slotOf n) fullShare B -∗ WP c (k v) Q)
          -∗ WP c (.op (.load bufM (rB p h).toLoadRect hl) k) Q) := by
  rw [← hp]
  unfold owns
  iintro ⟨%f, %hf, H⟩ Hk
  iapply (wp_load_rect 𝒱₀ (c : Thread nD τ) none Set.univ (m := bufM) (r := rB p h)
    (by rw [Memref.set_view_squeeze])) $$ H; iintro H
  iapply Hk $$ %_ [] [H]
  · ipureintro; exact hf
  · iexists f; isplitr; · ipureintro; exact hf
    iexact H

theorem ow_word : ∀ (o : Fin 3) (a : BitVec 32), a = BitVec.ofNat 32 o.val →
    ((Scalar.cmpi .ne (Scalar.extui (Scalar.cmpi .eq a 0#32) : BitVec 32) 0#32 = 1#1) ↔ o.val = 0)
      ∧ ((Scalar.cmpi .ne (Scalar.extui (Scalar.cmpi .eq a 1#32) : BitVec 32) 0#32 = 1#1) ↔ o.val = 1) := by
  rintro o a rfl; revert o; decide
theorem ow_add (c : Dev nD) (n : ℕ) : (Scalar.cmpi .ne (Scalar.extui (Scalar.cmpi .eq (ow c n) 0#32) : BitVec 32) 0#32 = 1#1) ↔ opc c n = 0 :=
  (ow_word ⟨opc c n, opc_lt c n⟩ _ rfl).1
theorem ow_rep (c : Dev nD) (n : ℕ) : (Scalar.cmpi .ne (Scalar.extui (Scalar.cmpi .eq (ow c n) 1#32) : BitVec 32) 0#32 = 1#1) ↔ opc c n = 1 :=
  (ow_word ⟨opc c n, opc_lt c n⟩ _ rfl).2

/-- What the first of the two updates leaves. -/
def comb0 (o : ℕ) (v : FVec F S2048x2048 .f32) (B : FVec F S2048x2048 .bf16) : FVec F S2048x2048 .f32 := if o = 0 then comb 0 v B else v
theorem comb_of (o : ℕ) (v : FVec F S2048x2048 .f32) (B : FVec F S2048x2048 .bf16) :
    (if o = 1 then comb 1 (comb0 o v B) B else comb0 o v B) = comb o v B := by
  unfold comb0
  by_cases h0 : o = 0
  · subst h0; rfl
  · by_cases h1 : o = 1
    · subst h1; rfl
    · rw [if_neg h1, if_neg h0]; unfold comb; rw [if_neg h0, if_neg h1]

theorem wp_ifAdd (c : Dev nD) (n p : ℕ) {h} (hp : slotM p h = slotOf n) (v : FVec F S2048x2048 .f32) {cnd : BitVec 1} (hc : cnd = 1#1 ↔ opc c n = 0)
    {pay : Vec F S2048x2048 .f32 → Vec F S1x2048x2048 .bf16 → FVec F S2048x2048 .f32} (hpay : pay = k0_pay6) {hl1} {hl2} {hl3} {hx} {hm}
    {R : PG (F := F) α} :
    iprop(hold (F := F) c cc0_stg4_0 v ∗ recvPay xs ws c n)
      ⊢ iprop(((hold (F := F) c cc0_stg4_0 (comb0 (opc c n) v (cut (val xs ws n (ptn c n)))) ∗ recvPay xs ws c n) -∗ WP c R Q)
          -∗ WP c ((if cnd = 1#1 then
              (.op (.load outM rO.toLoadRect hl1) fun a : rO.shape.Idx → Elt F .f32 => .op (.load bufM (rB p h).toLoadRect hl2) fun b : (rB p h).shape.Idx → Elt F .bf16 =>
                .op (.load outM rO.toLoadRect hl3) fun _ : rO.shape.Idx → Elt F .f32 => .op (.store outM rO (pay a b) Finset.univ hx hm) fun _ => R)
              else R : PG (F := F) α)) Q) := by
  subst hpay
  unfold recvPay
  iintro ⟨Ho, Hb⟩ Hk
  by_cases h0 : opc c n = 0
  · rw [if_pos (hc.mpr h0)]
    iapply (wp_ldO c v) $$ Ho; iintro Ho
    iapply (wp_ldB c n p hp _) $$ Hb; iintro %b %hb Hb
    iapply (wp_ldO c v) $$ Ho; iintro Ho
    iapply (wp_stO c v _) $$ Ho; iintro Ho
    iapply Hk
    isplitl [Ho]
    · rw [show comb0 (opc c n) v (cut (val xs ws n (ptn c n))) = k0_pay6 v b from by
        unfold comb0 comb; rw [if_pos h0, if_pos rfl, ← hb]; rfl]
      iexact Ho
    iexact Hb
  · rw [if_neg (fun h => h0 (hc.mp h))]
    iapply Hk
    unfold comb0
    rw [if_neg h0]
    isplitl [Ho]; · iexact Ho
    iexact Hb

theorem wp_ifRep (c : Dev nD) (n p : ℕ) {h} (hp : slotM p h = slotOf n) (v : FVec F S2048x2048 .f32) {cnd : BitVec 1} (hc : cnd = 1#1 ↔ opc c n = 1)
    {pay : Vec F S1x2048x2048 .bf16 → FVec F S2048x2048 .f32} (hpay : pay = k0_pay7) {hl2} {hl3} {hx} {hm}
    {R : PG (F := F) α} :
    iprop(hold (F := F) c cc0_stg4_0 (comb0 (opc c n) v (cut (val xs ws n (ptn c n)))) ∗ recvPay xs ws c n)
      ⊢ iprop(((hold (F := F) c cc0_stg4_0 (comb (opc c n) v (cut (val xs ws n (ptn c n)))) ∗ recvPay xs ws c n) -∗ WP c R Q)
          -∗ WP c ((if cnd = 1#1 then
              (.op (.load bufM (rB p h).toLoadRect hl2) fun b : (rB p h).shape.Idx → Elt F .bf16 =>
                .op (.load outM rO.toLoadRect hl3) fun _ : rO.shape.Idx → Elt F .f32 => .op (.store outM rO (pay b) Finset.univ hx hm) fun _ => R)
              else R : PG (F := F) α)) Q) := by
  subst hpay
  unfold recvPay
  iintro ⟨Ho, Hb⟩ Hk
  by_cases h1 : opc c n = 1
  · rw [if_pos (hc.mpr h1)]
    iapply (wp_ldB c n p hp _) $$ Hb; iintro %b %hb Hb
    iapply (wp_ldO c _) $$ Ho; iintro Ho
    iapply (wp_stO c _ _) $$ Ho; iintro Ho
    iapply Hk
    isplitl [Ho]
    · rw [show comb (opc c n) v (cut (val xs ws n (ptn c n))) = k0_pay7 b from by
        unfold comb; rw [if_neg (by omega), if_pos h1, ← hb]; rfl]
      iexact Ho
    iexact Hb
  · rw [if_neg (fun h => h1 (hc.mp h))]
    iapply Hk
    rw [← comb_of, if_neg h1]
    isplitl [Ho]; · iexact Ho
    iexact Hb

end Cert.Run
-- ==== Proof.Parts.lean ====
/-
  The parts of the kernel, one after the other: what each of them needs of what a device holds, and what it leaves.
-/
module

public import proofs.«01_k».proof.Proof.Steps

@[expose] public section

set_option maxRecDepth 20000

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → FVec F S2048x64 .bf16) (ws : Dev nD → FVec F S64x2048 .bf16) (K : Dev nD × Fin 29 → ℕ)
variable {h0 : tabM.IsWhole} {h1 : opM.IsWhole} {h2 : xM.IsWhole} {h3 : wM.IsWhole} {h4 : outM.IsWhole} {h5 : sbM.IsWhole} {h6 : bufM.IsWhole}
  {h7 : tsM.IsWhole} {h8 : tdM.IsWhole}

theorem le_ret (c : Dev nD) {α : Type} {a : α} {Q : α → sProp 𝕄} : Q a ⊢ WP (F := F) c (.ret a) Q := le_wp_ret frame _ Set.univ a Q

/-- What a device pays step `n`'s partner's barrier cell with. -/
def sigRes (c : Dev nD) (n : ℕ) (hn : n < 7 := by decide) : sProp 𝕄 :=
  iprop(dutyTok ER (barCell (ptn c n)) 0 (⟨n, hn⟩ : Fin 7) ∗ reached ER (barCell (ptn c n)) 0 ∗ barPay (F := F) (ptn c n) n)

theorem wp_sig' (c : Dev nD) (n : ℕ) (l : List (ℕ × ℕ)) {d : Dev nD} (hd : d = ptn c n) (hn : n < 7 := by decide) {α : Type} {Q : α → sProp 𝕄}
    {k : PUnit → PG (F := F) α} :
    iprop(ctx xs ws K ∗ owing (F := F) c ((0, n) :: l) ∗ sigRes (F := F) c n hn)
      ⊢ iprop((owing (F := F) c l -∗ WP c (k ⟨⟩) Q) -∗ WP c (semSignalWord d barS 1#32 >>= k) Q) := by
  unfold sigRes; exact wp_sig xs ws K c n l hd hn

theorem bar_lo (c : Dev nD) (n : ℕ) (h : n < 2 := by decide) : (barPay (F := F) c n : sProp 𝕄) = goPay (F := F) c n := by
  unfold barPay; rw [if_pos h]
theorem bar_hi (c : Dev nD) (n : ℕ) (h : ¬ n < 2 := by decide) :
    (barPay (F := F) c n : sProp 𝕄) = iprop(reached ER (dCell (ptn c n) 1 n) 0 ∗ tkPay (F := F) c n) := by
  unfold barPay; rw [if_neg h]
theorem slot_two (n : ℕ) : slotOf n = slotOf (n + 2) := slotOf_eq (by omega) _
theorem slot_back (c : Dev nD) (n : ℕ) : (anyAt (F := F) c (slotOf n) : sProp 𝕄) = anyAt (F := F) c (slotOf (n + 2)) := by rw [← slot_two]

theorem wp_cut (c : Dev nD) (n : ℕ) {w : FVec F S2048x2048 .bf16} (hw : w = cut (val xs ws n c)) {hx} {hm} {α : Type} {Q : α → sProp 𝕄} {k : PUnit → PG (F := F) α} :
    anyAt (F := F) c sbM ⊢ iprop((hold (F := F) c cc0_scratch0 (cut (val xs ws n c)) -∗ WP c (k ⟨⟩) Q)
      -∗ WP c (.op (.store sbM rO w Finset.univ hx hm) k) Q) := by
  subst hw; exact wp_stS c _

/-- A device's partial sum between the two updates of step `n`. -/
def mid (n : ℕ) (c : Dev nD) : FVec F S2048x2048 .f32 := comb0 (opc c n) (val xs ws n c) (cut (val xs ws n (ptn c n)))
theorem mid_def (n : ℕ) (c : Dev nD) : comb0 (opc c n) (val xs ws n c) (cut (val xs ws n (ptn c n))) = mid xs ws n c := rfl
theorem val_succ (n : ℕ) (c : Dev nD) : comb (opc c n) (val xs ws n c) (cut (val xs ws n (ptn c n))) = val xs ws (n + 1) c := by rw [val]

theorem wp_ifRep' (c : Dev nD) (n p : ℕ) {h} (hp : slotM p h = slotOf n) {cnd : BitVec 1} (hc : cnd = 1#1 ↔ opc c n = 1)
    {pay : Vec F S1x2048x2048 .bf16 → FVec F S2048x2048 .f32} (hpay : pay = k0_pay7) {hl2} {hl3} {hx} {hm} {α : Type} {Q : α → sProp 𝕄}
    {R : PG (F := F) α} :
    iprop(hold (F := F) c cc0_stg4_0 (mid xs ws n c) ∗ recvPay xs ws c n)
      ⊢ iprop(((hold (F := F) c cc0_stg4_0 (val xs ws (n + 1) c) ∗ recvPay xs ws c n) -∗ WP c R Q)
          -∗ WP c ((if cnd = 1#1 then
              (.op (.load bufM (rB p h).toLoadRect hl2) fun b : (rB p h).shape.Idx → Elt F .bf16 =>
                .op (.load outM rO.toLoadRect hl3) fun _ : rO.shape.Idx → Elt F .f32 => .op (.store outM rO (pay b) Finset.univ hx hm) fun _ => R)
              else R : PG (F := F) α)) Q) := by
  rw [← mid_def, ← val_succ]; exact wp_ifRep xs ws c n p hp _ hc hpay

theorem wp_part1 (c : Dev nD) {Q : (Σ' (v0 : Sems sig S_) (v19 : Elt F .i32) (k0_hw7 : k0_chk7 v19), BitVec 32) → sProp (MT nD τ sig Unit (Elt F) ℕ UU ℕ)} :
    iprop(ctx xs ws K
        ∗ hold (F := F) c cc0_stg0_0 (ptnRow c)
        ∗ owing (F := F) c [(0, 0), (0, 1), (0, 2), (0, 3), (0, 4), (0, 5), (0, 6), (1, 0), (2, 2), (1, 1), (2, 3), (1, 2), (2, 4), (1, 3), (2, 5), (1, 4), (2, 6), (1, 5), (1, 6)]
        ∗ sigRes (F := F) c 0
        ∗ sigRes (F := F) c 1
        ∗ sigRes (F := F) c 2
        ∗ sigRes (F := F) c 3
        ∗ sigRes (F := F) c 4
        ∗ sigRes (F := F) c 5)
      ⊢ iprop(((
        hold (F := F) c cc0_stg0_0 (ptnRow c)
        ∗ owing (F := F) c [(0, 6), (1, 0), (2, 2), (1, 1), (2, 3), (1, 2), (2, 4), (1, 3), (2, 5), (1, 4), (2, 6), (1, 5), (1, 6)])
            -∗ Q ⟨SemArray.scalar (sig.barrier 0 rfl), pw c 6, chk c 6, 1#32⟩)
          -∗ WP c (k0_part1 tabM h0 opM h1 xM h2 wM h3 outM h4 sbM h5 bufM h6 tsM h7 tdM h8 cc0_scratch4 cc0_scratch5 cc0_scratch6 cc0_scratch7) Q) := by
  rw [k0_part1_eq_skeleton]; unfold k0_part1_skel
  simp only [Prog.lift, Prog.bind_op, Prog.bind_ret, Prog.pure_eq_ret]
  iintro ⟨#Hc, HT, HO, Q0, Q1, Q2, Q3, Q4, Q5⟩ Hk
  iapply (wp_tab c 0) $$ HT; iintro HT
  iapply (wp_asm c (chk c 0))
  iapply (wp_sig' xs ws K c 0 _ (dev_eq rfl c 0)) $$ [HO Q0]
  · isplitr; · iexact Hc
    isplitl [HO]; · iexact HO
    iexact Q0
  iintro HO
  iapply (wp_tab c 1) $$ HT; iintro HT
  iapply (wp_asm c (chk c 1))
  iapply (wp_sig' xs ws K c 1 _ (dev_eq rfl c 1)) $$ [HO Q1]
  · isplitr; · iexact Hc
    isplitl [HO]; · iexact HO
    iexact Q1
  iintro HO
  iapply (wp_tab c 2) $$ HT; iintro HT
  iapply (wp_asm c (chk c 2))
  iapply (wp_sig' xs ws K c 2 _ (dev_eq rfl c 2)) $$ [HO Q2]
  · isplitr; · iexact Hc
    isplitl [HO]; · iexact HO
    iexact Q2
  iintro HO
  iapply (wp_tab c 3) $$ HT; iintro HT
  iapply (wp_asm c (chk c 3))
  iapply (wp_sig' xs ws K c 3 _ (dev_eq rfl c 3)) $$ [HO Q3]
  · isplitr; · iexact Hc
    isplitl [HO]; · iexact HO
    iexact Q3
  iintro HO
  iapply (wp_tab c 4) $$ HT; iintro HT
  iapply (wp_asm c (chk c 4))
  iapply (wp_sig' xs ws K c 4 _ (dev_eq rfl c 4)) $$ [HO Q4]
  · isplitr; · iexact Hc
    isplitl [HO]; · iexact HO
    iexact Q4
  iintro HO
  iapply (wp_tab c 5) $$ HT; iintro HT
  iapply (wp_asm c (chk c 5))
  iapply (wp_sig' xs ws K c 5 _ (dev_eq rfl c 5)) $$ [HO Q5]
  · isplitr; · iexact Hc
    isplitl [HO]; · iexact HO
    iexact Q5
  iintro HO
  iapply (wp_tab c 6) $$ HT; iintro HT
  iapply (wp_asm c (chk c 6))
  iapply (le_ret c)
  iapply Hk
  isplitl [HT]; · iexact HT
  iexact HO

theorem wp_part2 (c : Dev nD) (f : FVec F S2048x2048 .f32) {Q : (Elt F .i32) → sProp (MT nD τ sig Unit (Elt F) ℕ UU ℕ)} :
    iprop(ctx xs ws K
        ∗ owing (F := F) c [(0, 6), (1, 0), (2, 2), (1, 1), (2, 3), (1, 2), (2, 4), (1, 3), (2, 5), (1, 4), (2, 6), (1, 5), (1, 6)]
        ∗ sigRes (F := F) c 6
        ∗ cred (tallyAt (barCell c) () 7)
        ∗ atPos ER (barCell c) 0 ∅ 0
        ∗ hold (F := F) c cc0_stg2_0 (xs c)
        ∗ hold (F := F) c cc0_stg3_0 (ws c)
        ∗ hold (F := F) c cc0_stg4_0 f
        ∗ anyAt (F := F) c sbM
        ∗ hold (F := F) c cc0_stg0_0 (ptnRow c)
        ∗ stA (F := F) c 0)
      ⊢ iprop(((
        owing (F := F) c [(2, 2), (1, 1), (2, 3), (1, 2), (2, 4), (1, 3), (2, 5), (1, 4), (2, 6), (1, 5), (1, 6)]
        ∗ semVal (barCell c) 0
        ∗ goPay (F := F) c 1
        ∗ reached ER (dCell (ptn c 2) 1 2) 0
        ∗ tkPay (F := F) c 2
        ∗ reached ER (dCell (ptn c 3) 1 3) 0
        ∗ tkPay (F := F) c 3
        ∗ reached ER (dCell (ptn c 4) 1 4) 0
        ∗ tkPay (F := F) c 4
        ∗ reached ER (dCell (ptn c 5) 1 5) 0
        ∗ tkPay (F := F) c 5
        ∗ reached ER (dCell (ptn c 6) 1 6) 0
        ∗ tkPay (F := F) c 6
        ∗ hold (F := F) c cc0_stg2_0 (xs c)
        ∗ hold (F := F) c cc0_stg3_0 (ws c)
        ∗ hold (F := F) c cc0_stg4_0 (val xs ws 0 c)
        ∗ hold (F := F) c cc0_stg0_0 (ptnRow c)
        ∗ stB (F := F) c 0)
            -∗ Q (pw c 0))
          -∗ WP c (k0_part2 tabM h0 opM h1 xM h2 wM h3 outM h4 sbM h5 bufM h6 tsM h7 tdM h8 cc0_scratch4 cc0_scratch5 cc0_scratch6 cc0_scratch7 (SemArray.scalar (sig.barrier 0 rfl)) (pw c 6) (chk c 6) 1#32) Q) := by
  rw [k0_part2_eq_skeleton]; unfold k0_part2_skel
  simp only [Prog.lift, Prog.bind_op, Prog.bind_ret, Prog.pure_eq_ret]
  iintro ⟨#Hc, HO, Q6, CB, AB, HX, HW, HV, HS, HT, S0⟩ Hk
  iapply (wp_sig' xs ws K c 6 _ (dev_eq rfl c 6)) $$ [HO Q6]
  · isplitr; · iexact Hc
    isplitl [HO]; · iexact HO
    iexact Q6
  iintro HO
  iapply (wp_bar xs ws K c [(1, 0), (2, 2), (1, 1), (2, 3), (1, 2), (2, 4), (1, 3), (2, 5), (1, 4), (2, 6), (1, 5), (1, 6)] (by decide)) $$ [HO CB AB]
  · isplitr; · iexact Hc
    isplitl [HO]; · iexact HO
    isplitl [CB]; · iexact CB
    iexact AB
  iintro ⟨HO, Z, G0, G1, Y2, Y3, Y4, Y5, Y6⟩
  ihave G0 := (Entails.of_eq (bar_lo c 0)) $$ G0
  ihave G1 := (Entails.of_eq (bar_lo c 1)) $$ G1
  ihave Y2 := (Entails.of_eq (bar_hi c 2)) $$ Y2; icases Y2 with ⟨R2, P2⟩
  ihave Y3 := (Entails.of_eq (bar_hi c 3)) $$ Y3; icases Y3 with ⟨R3, P3⟩
  ihave Y4 := (Entails.of_eq (bar_hi c 4)) $$ Y4; icases Y4 with ⟨R4, P4⟩
  ihave Y5 := (Entails.of_eq (bar_hi c 5)) $$ Y5; icases Y5 with ⟨R5, P5⟩
  ihave Y6 := (Entails.of_eq (bar_hi c 6)) $$ Y6; icases Y6 with ⟨R6, P6⟩
  iapply (wp_ldX c _) $$ HX; iintro HX
  iapply (wp_ldW c _) $$ HW; iintro HW
  iapply (wp_ldO c _) $$ HV; iintro HV
  iapply (wp_stO c _ _) $$ HV; iintro HV
  iapply (wp_ldO c _) $$ HV; iintro HV
  iapply (wp_ldS c) $$ HS; iintro %_ HS
  iapply (wp_cut xs ws c 0 rfl) $$ HS; iintro HS
  iapply (wp_tab c 0) $$ HT; iintro HT
  iapply (wp_asm c (chk c 0))
  iapply (wp_data xs ws K c 0 _ (dev_eq rfl c 0) (slotP 0 1) (sem0 0) (sem1 0)) $$ [HO S0 G0 HS]
  · isplitr; · iexact Hc
    isplitl [HO]; · iexact HO
    isplitl [S0]; · iexact S0
    isplitl [G0]; · iexact G0
    iexact HS
  iintro ⟨HO, S0⟩
  iapply (le_ret c)
  iapply Hk
  isplitl [HO]; · iexact HO
  isplitl [Z]; · iexact Z
  isplitl [G1]; · iexact G1
  isplitl [R2]; · iexact R2
  isplitl [P2]; · iexact P2
  isplitl [R3]; · iexact R3
  isplitl [P3]; · iexact P3
  isplitl [R4]; · iexact R4
  isplitl [P4]; · iexact P4
  isplitl [R5]; · iexact R5
  isplitl [P5]; · iexact P5
  isplitl [R6]; · iexact R6
  isplitl [P6]; · iexact P6
  isplitl [HX]; · iexact HX
  isplitl [HW]; · iexact HW
  isplitl [HV]; · iexact HV
  isplitl [HT]; · iexact HT
  iexact S0

theorem wp_part3 (c : Dev nD) {Q : (PUnit) → sProp (MT nD τ sig Unit (Elt F) ℕ UU ℕ)} :
    iprop(ctx xs ws K
        ∗ owing (F := F) c [(2, 2), (1, 1), (2, 3), (1, 2), (2, 4), (1, 3), (2, 5), (1, 4), (2, 6), (1, 5), (1, 6)]
        ∗ stB (F := F) c 0
        ∗ hold (F := F) c cc0_stg1_0 (opcRow c)
        ∗ hold (F := F) c cc0_stg4_0 (val xs ws 0 c)
        ∗ hold (F := F) c cc0_stg0_0 (ptnRow c)
        ∗ tkA (F := F) c 2
        ∗ tkPay (F := F) c 2
        ∗ anyAt (F := F) c tsM)
      ⊢ iprop(((
        owing (F := F) c [(1, 1), (2, 3), (1, 2), (2, 4), (1, 3), (2, 5), (1, 4), (2, 6), (1, 5), (1, 6)]
        ∗ stD (F := F) c 0
        ∗ anyAt (F := F) c sbM
        ∗ hold (F := F) c cc0_stg1_0 (opcRow c)
        ∗ hold (F := F) c cc0_stg4_0 (val xs ws 1 c)
        ∗ hold (F := F) c cc0_stg0_0 (ptnRow c)
        ∗ tkC (F := F) c 2
        ∗ anyAt (F := F) c tsM)
            -∗ Q ⟨⟩)
          -∗ WP c (k0_part3 tabM h0 opM h1 xM h2 wM h3 outM h4 sbM h5 bufM h6 tsM h7 tdM h8 cc0_scratch4 cc0_scratch5 cc0_scratch6 cc0_scratch7 (pw c 0)) Q) := by
  rw [k0_part3_eq_skeleton]; unfold k0_part3_skel
  simp only [Prog.lift, Prog.bind_op, Prog.bind_ret, Prog.pure_eq_ret]
  iintro ⟨#Hc, HO, S0, HP, HV, HT, T2, P2, HK⟩ Hk
  iapply (wp_waitS xs ws K c 0 [(2, 2), (1, 1), (2, 3), (1, 2), (2, 4), (1, 3), (2, 5), (1, 4), (2, 6), (1, 5), (1, 6)] (by decide) (sem0 0)) $$ [HO S0]
  · isplitr; · iexact Hc
    isplitl [HO]; · iexact HO
    iexact S0
  iintro ⟨HO, S0, HS⟩
  iapply (wp_waitR xs ws K c 0 [(2, 2), (1, 1), (2, 3), (1, 2), (2, 4), (1, 3), (2, 5), (1, 4), (2, 6), (1, 5), (1, 6)] (by decide) (slotP 0 1) (sem1 0)) $$ [HO S0]
  · isplitr; · iexact Hc
    isplitl [HO]; · iexact HO
    iexact S0
  iintro ⟨HO, S0, B0⟩
  iapply (wp_opc c 0) $$ HP; iintro HP
  iapply (wp_ifAdd xs ws c 0 1 (slotP 0 1) _ (ow_add c 0) rfl) $$ [HV B0]
  · isplitl [HV]; · iexact HV
    iexact B0
  iintro ⟨HV, B0⟩
  iapply (wp_ifRep' xs ws c 0 1 (slotP 0 1) (ow_rep c 0) rfl) $$ [HV B0]
  · isplitl [HV]; · iexact HV
    iexact B0
  iintro ⟨HV, B0⟩
  iapply (wp_tab c 2) $$ HT; iintro HT
  iapply (wp_asm c (chk c 2))
  ihave B0 := (recv_any xs ws c 0) $$ B0
  ihave B0 := (Entails.of_eq (slot_back c 0)) $$ B0
  iapply (wp_tok xs ws K c 2 _ (dev_eq rfl c 2) (rowP 2) (sem2 2) (sem3 2)) $$ [HO T2 P2 HK B0]
  · isplitr; · iexact Hc
    isplitl [HO]; · iexact HO
    isplitl [T2]; · iexact T2
    isplitl [P2]; · iexact P2
    isplitl [HK]; · iexact HK
    iexact B0
  iintro ⟨HO, T2⟩
  iapply (wp_waitTS xs ws K c 2 [(1, 1), (2, 3), (1, 2), (2, 4), (1, 3), (2, 5), (1, 4), (2, 6), (1, 5), (1, 6)] (by decide) (sem2 2)) $$ [HO T2]
  · isplitr; · iexact Hc
    isplitl [HO]; · iexact HO
    iexact T2
  iintro ⟨HO, T2, HK⟩
  iapply (le_ret c)
  iapply Hk
  isplitl [HO]; · iexact HO
  isplitl [S0]; · iexact S0
  isplitl [HS]; · iexact HS
  isplitl [HP]; · iexact HP
  isplitl [HV]; · iexact HV
  isplitl [HT]; · iexact HT
  isplitl [T2]; · iexact T2
  iexact HK

theorem wp_part4 (c : Dev nD) {Q : (Σ' (v98 : Elt F .i32), BitVec 32) → sProp (MT nD τ sig Unit (Elt F) ℕ UU ℕ)} :
    iprop(ctx xs ws K
        ∗ hold (F := F) c cc0_stg4_0 (val xs ws 1 c)
        ∗ anyAt (F := F) c sbM
        ∗ hold (F := F) c cc0_stg0_0 (ptnRow c)
        ∗ owing (F := F) c [(1, 1), (2, 3), (1, 2), (2, 4), (1, 3), (2, 5), (1, 4), (2, 6), (1, 5), (1, 6)]
        ∗ stA (F := F) c 1
        ∗ goPay (F := F) c 1
        ∗ hold (F := F) c cc0_stg1_0 (opcRow c))
      ⊢ iprop(((
        hold (F := F) c cc0_stg4_0 (val xs ws 1 c)
        ∗ anyAt (F := F) c sbM
        ∗ hold (F := F) c cc0_stg0_0 (ptnRow c)
        ∗ owing (F := F) c [(2, 3), (1, 2), (2, 4), (1, 3), (2, 5), (1, 4), (2, 6), (1, 5), (1, 6)]
        ∗ stD (F := F) c 1
        ∗ recvPay xs ws c 1
        ∗ hold (F := F) c cc0_stg1_0 (opcRow c))
            -∗ Q ⟨ow c 1, Scalar.extui (Scalar.cmpi .eq (ow c 1) 0#32)⟩)
          -∗ WP c (k0_part4 tabM h0 opM h1 xM h2 wM h3 outM h4 sbM h5 bufM h6 tsM h7 tdM h8 cc0_scratch4 cc0_scratch5 cc0_scratch6 cc0_scratch7) Q) := by
  rw [k0_part4_eq_skeleton]; unfold k0_part4_skel
  simp only [Prog.lift, Prog.bind_op, Prog.bind_ret, Prog.pure_eq_ret]
  iintro ⟨#Hc, HV, HS, HT, HO, S1, G1, HP⟩ Hk
  iapply (wp_ldO c _) $$ HV; iintro HV
  iapply (wp_ldS c) $$ HS; iintro %_ HS
  iapply (wp_cut xs ws c 1 rfl) $$ HS; iintro HS
  iapply (wp_tab c 1) $$ HT; iintro HT
  iapply (wp_asm c (chk c 1))
  iapply (wp_data xs ws K c 1 _ (dev_eq rfl c 1) (slotP 1 0) (sem0 1) (sem1 1)) $$ [HO S1 G1 HS]
  · isplitr; · iexact Hc
    isplitl [HO]; · iexact HO
    isplitl [S1]; · iexact S1
    isplitl [G1]; · iexact G1
    iexact HS
  iintro ⟨HO, S1⟩
  iapply (wp_waitS xs ws K c 1 [(2, 3), (1, 2), (2, 4), (1, 3), (2, 5), (1, 4), (2, 6), (1, 5), (1, 6)] (by decide) (sem0 1)) $$ [HO S1]
  · isplitr; · iexact Hc
    isplitl [HO]; · iexact HO
    iexact S1
  iintro ⟨HO, S1, HS⟩
  iapply (wp_waitR xs ws K c 1 [(2, 3), (1, 2), (2, 4), (1, 3), (2, 5), (1, 4), (2, 6), (1, 5), (1, 6)] (by decide) (slotP 1 0) (sem1 1)) $$ [HO S1]
  · isplitr; · iexact Hc
    isplitl [HO]; · iexact HO
    iexact S1
  iintro ⟨HO, S1, B1⟩
  iapply (wp_opc c 1) $$ HP; iintro HP
  iapply (le_ret c)
  iapply Hk
  isplitl [HV]; · iexact HV
  isplitl [HS]; · iexact HS
  isplitl [HT]; · iexact HT
  isplitl [HO]; · iexact HO
  isplitl [S1]; · iexact S1
  isplitl [B1]; · iexact B1
  iexact HP

theorem wp_part5 (c : Dev nD) {Q : (FVec F S2048x2048 .bf16) → sProp (MT nD τ sig Unit (Elt F) ℕ UU ℕ)} :
    iprop(ctx xs ws K
        ∗ hold (F := F) c cc0_stg4_0 (val xs ws 1 c)
        ∗ recvPay xs ws c 1
        ∗ hold (F := F) c cc0_stg0_0 (ptnRow c)
        ∗ owing (F := F) c [(2, 3), (1, 2), (2, 4), (1, 3), (2, 5), (1, 4), (2, 6), (1, 5), (1, 6)]
        ∗ tkA (F := F) c 3
        ∗ tkPay (F := F) c 3
        ∗ anyAt (F := F) c tsM
        ∗ tkC (F := F) c 2
        ∗ reached ER (dCell (ptn c 2) 1 2) 0)
      ⊢ iprop(((
        hold (F := F) c cc0_stg4_0 (val xs ws 2 c)
        ∗ hold (F := F) c cc0_stg0_0 (ptnRow c)
        ∗ owing (F := F) c [(1, 2), (2, 4), (1, 3), (2, 5), (1, 4), (2, 6), (1, 5), (1, 6)]
        ∗ tkC (F := F) c 3
        ∗ anyAt (F := F) c tsM
        ∗ tkD (F := F) c 2
        ∗ anyAt (F := F) c (rowOf 2)
        ∗ goPay (F := F) c 2)
            -∗ Q (k0_pay11 (val xs ws 2 c)))
          -∗ WP c (k0_part5 tabM h0 opM h1 xM h2 wM h3 outM h4 sbM h5 bufM h6 tsM h7 tdM h8 cc0_scratch4 cc0_scratch5 cc0_scratch6 cc0_scratch7 (ow c 1) (Scalar.extui (Scalar.cmpi .eq (ow c 1) 0#32))) Q) := by
  rw [k0_part5_eq_skeleton]; unfold k0_part5_skel
  simp only [Prog.lift, Prog.bind_op, Prog.bind_ret, Prog.pure_eq_ret]
  iintro ⟨#Hc, HV, B1, HT, HO, T3, P3, HK, T2, R2⟩ Hk
  iapply (wp_ifAdd xs ws c 1 0 (slotP 1 0) _ (ow_add c 1) rfl) $$ [HV B1]
  · isplitl [HV]; · iexact HV
    iexact B1
  iintro ⟨HV, B1⟩
  iapply (wp_ifRep' xs ws c 1 0 (slotP 1 0) (ow_rep c 1) rfl) $$ [HV B1]
  · isplitl [HV]; · iexact HV
    iexact B1
  iintro ⟨HV, B1⟩
  iapply (wp_tab c 3) $$ HT; iintro HT
  iapply (wp_asm c (chk c 3))
  ihave B1 := (recv_any xs ws c 1) $$ B1
  ihave B1 := (Entails.of_eq (slot_back c 1)) $$ B1
  iapply (wp_tok xs ws K c 3 _ (dev_eq rfl c 3) (rowP 3) (sem2 3) (sem3 3)) $$ [HO T3 P3 HK B1]
  · isplitr; · iexact Hc
    isplitl [HO]; · iexact HO
    isplitl [T3]; · iexact T3
    isplitl [P3]; · iexact P3
    isplitl [HK]; · iexact HK
    iexact B1
  iintro ⟨HO, T3⟩
  iapply (wp_waitTS xs ws K c 3 [(1, 2), (2, 4), (1, 3), (2, 5), (1, 4), (2, 6), (1, 5), (1, 6)] (by decide) (sem2 3)) $$ [HO T3]
  · isplitr; · iexact Hc
    isplitl [HO]; · iexact HO
    iexact T3
  iintro ⟨HO, T3, HK⟩
  iapply (wp_tab c 2) $$ HT; iintro HT
  iapply (wp_waitTR xs ws K c 2 [(1, 2), (2, 4), (1, 3), (2, 5), (1, 4), (2, 6), (1, 5), (1, 6)] (by decide) (rowP 2) (sem3 2)) $$ [HO T2 R2]
  · isplitr; · iexact Hc
    isplitl [HO]; · iexact HO
    isplitl [T2]; · iexact T2
    iexact R2
  iintro ⟨HO, T2, W2, G2⟩
  iapply (wp_ldO c _) $$ HV; iintro HV
  iapply (le_ret c)
  iapply Hk
  isplitl [HV]; · iexact HV
  isplitl [HT]; · iexact HT
  isplitl [HO]; · iexact HO
  isplitl [T3]; · iexact T3
  isplitl [HK]; · iexact HK
  isplitl [T2]; · iexact T2
  isplitl [W2]; · iexact W2
  iexact G2

theorem wp_part6 (c : Dev nD) {Q : (BitVec 1) → sProp (MT nD τ sig Unit (Elt F) ℕ UU ℕ)} :
    iprop(ctx xs ws K
        ∗ anyAt (F := F) c sbM
        ∗ hold (F := F) c cc0_stg0_0 (ptnRow c)
        ∗ owing (F := F) c [(1, 2), (2, 4), (1, 3), (2, 5), (1, 4), (2, 6), (1, 5), (1, 6)]
        ∗ stA (F := F) c 2
        ∗ goPay (F := F) c 2
        ∗ hold (F := F) c cc0_stg1_0 (opcRow c)
        ∗ hold (F := F) c cc0_stg4_0 (val xs ws 2 c))
      ⊢ iprop(((
        anyAt (F := F) c sbM
        ∗ hold (F := F) c cc0_stg0_0 (ptnRow c)
        ∗ owing (F := F) c [(2, 4), (1, 3), (2, 5), (1, 4), (2, 6), (1, 5), (1, 6)]
        ∗ stD (F := F) c 2
        ∗ recvPay xs ws c 2
        ∗ hold (F := F) c cc0_stg1_0 (opcRow c)
        ∗ hold (F := F) c cc0_stg4_0 (mid xs ws 2 c))
            -∗ Q (Scalar.cmpi .eq (ow c 2) 1#32))
          -∗ WP c (k0_part6 tabM h0 opM h1 xM h2 wM h3 outM h4 sbM h5 bufM h6 tsM h7 tdM h8 cc0_scratch4 cc0_scratch5 cc0_scratch6 cc0_scratch7 (k0_pay11 (val xs ws 2 c))) Q) := by
  rw [k0_part6_eq_skeleton]; unfold k0_part6_skel
  simp only [Prog.lift, Prog.bind_op, Prog.bind_ret, Prog.pure_eq_ret]
  iintro ⟨#Hc, HS, HT, HO, S2, G2, HP, HV⟩ Hk
  iapply (wp_ldS c) $$ HS; iintro %_ HS
  iapply (wp_cut xs ws c 2 rfl) $$ HS; iintro HS
  iapply (wp_tab c 2) $$ HT; iintro HT
  iapply (wp_asm c (chk c 2))
  iapply (wp_data xs ws K c 2 _ (dev_eq rfl c 2) (slotP 2 1) (sem0 2) (sem1 2)) $$ [HO S2 G2 HS]
  · isplitr; · iexact Hc
    isplitl [HO]; · iexact HO
    isplitl [S2]; · iexact S2
    isplitl [G2]; · iexact G2
    iexact HS
  iintro ⟨HO, S2⟩
  iapply (wp_waitS xs ws K c 2 [(2, 4), (1, 3), (2, 5), (1, 4), (2, 6), (1, 5), (1, 6)] (by decide) (sem0 2)) $$ [HO S2]
  · isplitr; · iexact Hc
    isplitl [HO]; · iexact HO
    iexact S2
  iintro ⟨HO, S2, HS⟩
  iapply (wp_waitR xs ws K c 2 [(2, 4), (1, 3), (2, 5), (1, 4), (2, 6), (1, 5), (1, 6)] (by decide) (slotP 2 1) (sem1 2)) $$ [HO S2]
  · isplitr; · iexact Hc
    isplitl [HO]; · iexact HO
    iexact S2
  iintro ⟨HO, S2, B2⟩
  iapply (wp_opc c 2) $$ HP; iintro HP
  iapply (wp_ifAdd xs ws c 2 1 (slotP 2 1) _ (ow_add c 2) rfl) $$ [HV B2]
  · isplitl [HV]; · iexact HV
    iexact B2
  iintro ⟨HV, B2⟩
  iapply (le_ret c)
  iapply Hk
  isplitl [HS]; · iexact HS
  isplitl [HT]; · iexact HT
  isplitl [HO]; · iexact HO
  isplitl [S2]; · iexact S2
  isplitl [B2]; · iexact B2
  isplitl [HP]; · iexact HP
  iexact HV

theorem wp_part7 (c : Dev nD) {Q : (FVec F S2048x2048 .bf16) → sProp (MT nD τ sig Unit (Elt F) ℕ UU ℕ)} :
    iprop(ctx xs ws K
        ∗ hold (F := F) c cc0_stg4_0 (mid xs ws 2 c)
        ∗ recvPay xs ws c 2
        ∗ hold (F := F) c cc0_stg0_0 (ptnRow c)
        ∗ owing (F := F) c [(2, 4), (1, 3), (2, 5), (1, 4), (2, 6), (1, 5), (1, 6)]
        ∗ tkA (F := F) c 4
        ∗ tkPay (F := F) c 4
        ∗ anyAt (F := F) c tsM
        ∗ tkC (F := F) c 3
        ∗ reached ER (dCell (ptn c 3) 1 3) 0
        ∗ anyAt (F := F) c sbM)
      ⊢ iprop(((
        hold (F := F) c cc0_stg4_0 (val xs ws 3 c)
        ∗ hold (F := F) c cc0_stg0_0 (ptnRow c)
        ∗ owing (F := F) c [(1, 3), (2, 5), (1, 4), (2, 6), (1, 5), (1, 6)]
        ∗ tkC (F := F) c 4
        ∗ anyAt (F := F) c tsM
        ∗ tkD (F := F) c 3
        ∗ anyAt (F := F) c (rowOf 3)
        ∗ goPay (F := F) c 3
        ∗ anyAt (F := F) c sbM)
            -∗ Q (k0_pay15 (val xs ws 3 c)))
          -∗ WP c (k0_part7 tabM h0 opM h1 xM h2 wM h3 outM h4 sbM h5 bufM h6 tsM h7 tdM h8 cc0_scratch4 cc0_scratch5 cc0_scratch6 cc0_scratch7 (Scalar.cmpi .eq (ow c 2) 1#32)) Q) := by
  rw [k0_part7_eq_skeleton]; unfold k0_part7_skel
  simp only [Prog.lift, Prog.bind_op, Prog.bind_ret, Prog.pure_eq_ret]
  iintro ⟨#Hc, HV, B2, HT, HO, T4, P4, HK, T3, R3, HS⟩ Hk
  iapply (wp_ifRep' xs ws c 2 1 (slotP 2 1) (ow_rep c 2) rfl) $$ [HV B2]
  · isplitl [HV]; · iexact HV
    iexact B2
  iintro ⟨HV, B2⟩
  iapply (wp_tab c 4) $$ HT; iintro HT
  iapply (wp_asm c (chk c 4))
  ihave B2 := (recv_any xs ws c 2) $$ B2
  ihave B2 := (Entails.of_eq (slot_back c 2)) $$ B2
  iapply (wp_tok xs ws K c 4 _ (dev_eq rfl c 4) (rowP 4) (sem2 4) (sem3 4)) $$ [HO T4 P4 HK B2]
  · isplitr; · iexact Hc
    isplitl [HO]; · iexact HO
    isplitl [T4]; · iexact T4
    isplitl [P4]; · iexact P4
    isplitl [HK]; · iexact HK
    iexact B2
  iintro ⟨HO, T4⟩
  iapply (wp_waitTS xs ws K c 4 [(1, 3), (2, 5), (1, 4), (2, 6), (1, 5), (1, 6)] (by decide) (sem2 4)) $$ [HO T4]
  · isplitr; · iexact Hc
    isplitl [HO]; · iexact HO
    iexact T4
  iintro ⟨HO, T4, HK⟩
  iapply (wp_tab c 3) $$ HT; iintro HT
  iapply (wp_waitTR xs ws K c 3 [(1, 3), (2, 5), (1, 4), (2, 6), (1, 5), (1, 6)] (by decide) (rowP 3) (sem3 3)) $$ [HO T3 R3]
  · isplitr; · iexact Hc
    isplitl [HO]; · iexact HO
    isplitl [T3]; · iexact T3
    iexact R3
  iintro ⟨HO, T3, W3, G3⟩
  iapply (wp_ldO c _) $$ HV; iintro HV
  iapply (wp_ldS c) $$ HS; iintro %_ HS
  iapply (le_ret c)
  iapply Hk
  isplitl [HV]; · iexact HV
  isplitl [HT]; · iexact HT
  isplitl [HO]; · iexact HO
  isplitl [T4]; · iexact T4
  isplitl [HK]; · iexact HK
  isplitl [T3]; · iexact T3
  isplitl [W3]; · iexact W3
  isplitl [G3]; · iexact G3
  iexact HS

theorem wp_part8 (c : Dev nD) {Q : (PUnit) → sProp (MT nD τ sig Unit (Elt F) ℕ UU ℕ)} :
    iprop(ctx xs ws K
        ∗ anyAt (F := F) c sbM
        ∗ hold (F := F) c cc0_stg0_0 (ptnRow c)
        ∗ owing (F := F) c [(1, 3), (2, 5), (1, 4), (2, 6), (1, 5), (1, 6)]
        ∗ stA (F := F) c 3
        ∗ goPay (F := F) c 3
        ∗ hold (F := F) c cc0_stg1_0 (opcRow c)
        ∗ hold (F := F) c cc0_stg4_0 (val xs ws 3 c))
      ⊢ iprop(((
        anyAt (F := F) c sbM
        ∗ hold (F := F) c cc0_stg0_0 (ptnRow c)
        ∗ owing (F := F) c [(2, 5), (1, 4), (2, 6), (1, 5), (1, 6)]
        ∗ stD (F := F) c 3
        ∗ recvPay xs ws c 3
        ∗ hold (F := F) c cc0_stg1_0 (opcRow c)
        ∗ hold (F := F) c cc0_stg4_0 (val xs ws 4 c))
            -∗ Q ⟨⟩)
          -∗ WP c (k0_part8 tabM h0 opM h1 xM h2 wM h3 outM h4 sbM h5 bufM h6 tsM h7 tdM h8 cc0_scratch4 cc0_scratch5 cc0_scratch6 cc0_scratch7 (k0_pay15 (val xs ws 3 c))) Q) := by
  rw [k0_part8_eq_skeleton]; unfold k0_part8_skel
  simp only [Prog.lift, Prog.bind_op, Prog.bind_ret, Prog.pure_eq_ret]
  iintro ⟨#Hc, HS, HT, HO, S3, G3, HP, HV⟩ Hk
  iapply (wp_cut xs ws c 3 rfl) $$ HS; iintro HS
  iapply (wp_tab c 3) $$ HT; iintro HT
  iapply (wp_asm c (chk c 3))
  iapply (wp_data xs ws K c 3 _ (dev_eq rfl c 3) (slotP 3 0) (sem0 3) (sem1 3)) $$ [HO S3 G3 HS]
  · isplitr; · iexact Hc
    isplitl [HO]; · iexact HO
    isplitl [S3]; · iexact S3
    isplitl [G3]; · iexact G3
    iexact HS
  iintro ⟨HO, S3⟩
  iapply (wp_waitS xs ws K c 3 [(2, 5), (1, 4), (2, 6), (1, 5), (1, 6)] (by decide) (sem0 3)) $$ [HO S3]
  · isplitr; · iexact Hc
    isplitl [HO]; · iexact HO
    iexact S3
  iintro ⟨HO, S3, HS⟩
  iapply (wp_waitR xs ws K c 3 [(2, 5), (1, 4), (2, 6), (1, 5), (1, 6)] (by decide) (slotP 3 0) (sem1 3)) $$ [HO S3]
  · isplitr; · iexact Hc
    isplitl [HO]; · iexact HO
    iexact S3
  iintro ⟨HO, S3, B3⟩
  iapply (wp_opc c 3) $$ HP; iintro HP
  iapply (wp_ifAdd xs ws c 3 0 (slotP 3 0) _ (ow_add c 3) rfl) $$ [HV B3]
  · isplitl [HV]; · iexact HV
    iexact B3
  iintro ⟨HV, B3⟩
  iapply (wp_ifRep' xs ws c 3 0 (slotP 3 0) (ow_rep c 3) rfl) $$ [HV B3]
  · isplitl [HV]; · iexact HV
    iexact B3
  iintro ⟨HV, B3⟩
  iapply (le_ret c)
  iapply Hk
  isplitl [HS]; · iexact HS
  isplitl [HT]; · iexact HT
  isplitl [HO]; · iexact HO
  isplitl [S3]; · iexact S3
  isplitl [B3]; · iexact B3
  isplitl [HP]; · iexact HP
  iexact HV

theorem wp_part9 (c : Dev nD) {Q : (Σ' (v235 : Elt F .i32), k0_chk16 v235) → sProp (MT nD τ sig Unit (Elt F) ℕ UU ℕ)} :
    iprop(ctx xs ws K
        ∗ hold (F := F) c cc0_stg0_0 (ptnRow c)
        ∗ owing (F := F) c [(2, 5), (1, 4), (2, 6), (1, 5), (1, 6)]
        ∗ tkA (F := F) c 5
        ∗ tkPay (F := F) c 5
        ∗ anyAt (F := F) c tsM
        ∗ recvPay xs ws c 3
        ∗ tkC (F := F) c 4
        ∗ reached ER (dCell (ptn c 4) 1 4) 0
        ∗ hold (F := F) c cc0_stg4_0 (val xs ws 4 c)
        ∗ anyAt (F := F) c sbM)
      ⊢ iprop(((
        hold (F := F) c cc0_stg0_0 (ptnRow c)
        ∗ owing (F := F) c [(1, 4), (2, 6), (1, 5), (1, 6)]
        ∗ tkC (F := F) c 5
        ∗ anyAt (F := F) c tsM
        ∗ tkD (F := F) c 4
        ∗ anyAt (F := F) c (rowOf 4)
        ∗ goPay (F := F) c 4
        ∗ hold (F := F) c cc0_stg4_0 (val xs ws 4 c)
        ∗ hold (F := F) c cc0_scratch0 (cut (val xs ws 4 c)))
            -∗ Q ⟨pw c 4, chk c 4⟩)
          -∗ WP c (k0_part9 tabM h0 opM h1 xM h2 wM h3 outM h4 sbM h5 bufM h6 tsM h7 tdM h8 cc0_scratch4 cc0_scratch5 cc0_scratch6 cc0_scratch7) Q) := by
  rw [k0_part9_eq_skeleton]; unfold k0_part9_skel
  simp only [Prog.lift, Prog.bind_op, Prog.bind_ret, Prog.pure_eq_ret]
  iintro ⟨#Hc, HT, HO, T5, P5, HK, B3, T4, R4, HV, HS⟩ Hk
  iapply (wp_tab c 5) $$ HT; iintro HT
  iapply (wp_asm c (chk c 5))
  ihave B3 := (recv_any xs ws c 3) $$ B3
  ihave B3 := (Entails.of_eq (slot_back c 3)) $$ B3
  iapply (wp_tok xs ws K c 5 _ (dev_eq rfl c 5) (rowP 5) (sem2 5) (sem3 5)) $$ [HO T5 P5 HK B3]
  · isplitr; · iexact Hc
    isplitl [HO]; · iexact HO
    isplitl [T5]; · iexact T5
    isplitl [P5]; · iexact P5
    isplitl [HK]; · iexact HK
    iexact B3
  iintro ⟨HO, T5⟩
  iapply (wp_waitTS xs ws K c 5 [(1, 4), (2, 6), (1, 5), (1, 6)] (by decide) (sem2 5)) $$ [HO T5]
  · isplitr; · iexact Hc
    isplitl [HO]; · iexact HO
    iexact T5
  iintro ⟨HO, T5, HK⟩
  iapply (wp_tab c 4) $$ HT; iintro HT
  iapply (wp_waitTR xs ws K c 4 [(1, 4), (2, 6), (1, 5), (1, 6)] (by decide) (rowP 4) (sem3 4)) $$ [HO T4 R4]
  · isplitr; · iexact Hc
    isplitl [HO]; · iexact HO
    isplitl [T4]; · iexact T4
    iexact R4
  iintro ⟨HO, T4, W4, G4⟩
  iapply (wp_ldO c _) $$ HV; iintro HV
  iapply (wp_ldS c) $$ HS; iintro %_ HS
  iapply (wp_cut xs ws c 4 rfl) $$ HS; iintro HS
  iapply (wp_tab c 4) $$ HT; iintro HT
  iapply (wp_asm c (chk c 4))
  iapply (le_ret c)
  iapply Hk
  isplitl [HT]; · iexact HT
  isplitl [HO]; · iexact HO
  isplitl [T5]; · iexact T5
  isplitl [HK]; · iexact HK
  isplitl [T4]; · iexact T4
  isplitl [W4]; · iexact W4
  isplitl [G4]; · iexact G4
  isplitl [HV]; · iexact HV
  iexact HS

theorem wp_part10 (c : Dev nD) {Q : (Σ' (v261 : Elt F .i32), k0_chk17 v261) → sProp (MT nD τ sig Unit (Elt F) ℕ UU ℕ)} :
    iprop(ctx xs ws K
        ∗ owing (F := F) c [(1, 4), (2, 6), (1, 5), (1, 6)]
        ∗ stA (F := F) c 4
        ∗ goPay (F := F) c 4
        ∗ hold (F := F) c cc0_scratch0 (cut (val xs ws 4 c))
        ∗ hold (F := F) c cc0_stg1_0 (opcRow c)
        ∗ hold (F := F) c cc0_stg4_0 (val xs ws 4 c)
        ∗ hold (F := F) c cc0_stg0_0 (ptnRow c))
      ⊢ iprop(((
        owing (F := F) c [(2, 6), (1, 5), (1, 6)]
        ∗ stD (F := F) c 4
        ∗ anyAt (F := F) c sbM
        ∗ recvPay xs ws c 4
        ∗ hold (F := F) c cc0_stg1_0 (opcRow c)
        ∗ hold (F := F) c cc0_stg4_0 (val xs ws 5 c)
        ∗ hold (F := F) c cc0_stg0_0 (ptnRow c))
            -∗ Q ⟨pw c 6, chk c 6⟩)
          -∗ WP c (k0_part10 tabM h0 opM h1 xM h2 wM h3 outM h4 sbM h5 bufM h6 tsM h7 tdM h8 cc0_scratch4 cc0_scratch5 cc0_scratch6 cc0_scratch7 (pw c 4) (chk c 4)) Q) := by
  rw [k0_part10_eq_skeleton]; unfold k0_part10_skel
  simp only [Prog.lift, Prog.bind_op, Prog.bind_ret, Prog.pure_eq_ret]
  iintro ⟨#Hc, HO, S4, G4, HS, HP, HV, HT⟩ Hk
  iapply (wp_data xs ws K c 4 _ (dev_eq rfl c 4) (slotP 4 1) (sem0 4) (sem1 4)) $$ [HO S4 G4 HS]
  · isplitr; · iexact Hc
    isplitl [HO]; · iexact HO
    isplitl [S4]; · iexact S4
    isplitl [G4]; · iexact G4
    iexact HS
  iintro ⟨HO, S4⟩
  iapply (wp_waitS xs ws K c 4 [(2, 6), (1, 5), (1, 6)] (by decide) (sem0 4)) $$ [HO S4]
  · isplitr; · iexact Hc
    isplitl [HO]; · iexact HO
    iexact S4
  iintro ⟨HO, S4, HS⟩
  iapply (wp_waitR xs ws K c 4 [(2, 6), (1, 5), (1, 6)] (by decide) (slotP 4 1) (sem1 4)) $$ [HO S4]
  · isplitr; · iexact Hc
    isplitl [HO]; · iexact HO
    iexact S4
  iintro ⟨HO, S4, B4⟩
  iapply (wp_opc c 4) $$ HP; iintro HP
  iapply (wp_ifAdd xs ws c 4 1 (slotP 4 1) _ (ow_add c 4) rfl) $$ [HV B4]
  · isplitl [HV]; · iexact HV
    iexact B4
  iintro ⟨HV, B4⟩
  iapply (wp_ifRep' xs ws c 4 1 (slotP 4 1) (ow_rep c 4) rfl) $$ [HV B4]
  · isplitl [HV]; · iexact HV
    iexact B4
  iintro ⟨HV, B4⟩
  iapply (wp_tab c 6) $$ HT; iintro HT
  iapply (wp_asm c (chk c 6))
  iapply (le_ret c)
  iapply Hk
  isplitl [HO]; · iexact HO
  isplitl [S4]; · iexact S4
  isplitl [HS]; · iexact HS
  isplitl [B4]; · iexact B4
  isplitl [HP]; · iexact HP
  isplitl [HV]; · iexact HV
  iexact HT

theorem wp_part11 (c : Dev nD) {Q : (Σ' (v287 : Elt F .i32) (k0_hw18 : k0_chk18 v287) (v288 : BitVec 32), BitVec 32) → sProp (MT nD τ sig Unit (Elt F) ℕ UU ℕ)} :
    iprop(ctx xs ws K
        ∗ owing (F := F) c [(2, 6), (1, 5), (1, 6)]
        ∗ tkA (F := F) c 6
        ∗ tkPay (F := F) c 6
        ∗ anyAt (F := F) c tsM
        ∗ recvPay xs ws c 4
        ∗ hold (F := F) c cc0_stg0_0 (ptnRow c)
        ∗ tkC (F := F) c 5
        ∗ reached ER (dCell (ptn c 5) 1 5) 0
        ∗ hold (F := F) c cc0_stg4_0 (val xs ws 5 c)
        ∗ anyAt (F := F) c sbM)
      ⊢ iprop(((
        owing (F := F) c [(1, 5), (1, 6)]
        ∗ tkC (F := F) c 6
        ∗ anyAt (F := F) c tsM
        ∗ hold (F := F) c cc0_stg0_0 (ptnRow c)
        ∗ tkD (F := F) c 5
        ∗ anyAt (F := F) c (rowOf 5)
        ∗ goPay (F := F) c 5
        ∗ hold (F := F) c cc0_stg4_0 (val xs ws 5 c)
        ∗ hold (F := F) c cc0_scratch0 (cut (val xs ws 5 c)))
            -∗ Q ⟨pw c 5, chk c 5, Scalar.muli (pw c 5) 1#32, 0#32⟩)
          -∗ WP c (k0_part11 tabM h0 opM h1 xM h2 wM h3 outM h4 sbM h5 bufM h6 tsM h7 tdM h8 cc0_scratch4 cc0_scratch5 cc0_scratch6 cc0_scratch7 (pw c 6) (chk c 6)) Q) := by
  rw [k0_part11_eq_skeleton]; unfold k0_part11_skel
  simp only [Prog.lift, Prog.bind_op, Prog.bind_ret, Prog.pure_eq_ret]
  iintro ⟨#Hc, HO, T6, P6, HK, B4, HT, T5, R5, HV, HS⟩ Hk
  ihave B4 := (recv_any xs ws c 4) $$ B4
  ihave B4 := (Entails.of_eq (slot_back c 4)) $$ B4
  iapply (wp_tok xs ws K c 6 _ (dev_eq rfl c 6) (rowP 6) (sem2 6) (sem3 6)) $$ [HO T6 P6 HK B4]
  · isplitr; · iexact Hc
    isplitl [HO]; · iexact HO
    isplitl [T6]; · iexact T6
    isplitl [P6]; · iexact P6
    isplitl [HK]; · iexact HK
    iexact B4
  iintro ⟨HO, T6⟩
  iapply (wp_waitTS xs ws K c 6 [(1, 5), (1, 6)] (by decide) (sem2 6)) $$ [HO T6]
  · isplitr; · iexact Hc
    isplitl [HO]; · iexact HO
    iexact T6
  iintro ⟨HO, T6, HK⟩
  iapply (wp_tab c 5) $$ HT; iintro HT
  iapply (wp_waitTR xs ws K c 5 [(1, 5), (1, 6)] (by decide) (rowP 5) (sem3 5)) $$ [HO T5 R5]
  · isplitr; · iexact Hc
    isplitl [HO]; · iexact HO
    isplitl [T5]; · iexact T5
    iexact R5
  iintro ⟨HO, T5, W5, G5⟩
  iapply (wp_ldO c _) $$ HV; iintro HV
  iapply (wp_ldS c) $$ HS; iintro %_ HS
  iapply (wp_cut xs ws c 5 rfl) $$ HS; iintro HS
  iapply (wp_tab c 5) $$ HT; iintro HT
  iapply (wp_asm c (chk c 5))
  iapply (le_ret c)
  iapply Hk
  isplitl [HO]; · iexact HO
  isplitl [T6]; · iexact T6
  isplitl [HK]; · iexact HK
  isplitl [HT]; · iexact HT
  isplitl [T5]; · iexact T5
  isplitl [W5]; · iexact W5
  isplitl [G5]; · iexact G5
  isplitl [HV]; · iexact HV
  iexact HS

theorem wp_part12 (c : Dev nD) {Q : (PUnit) → sProp (MT nD τ sig Unit (Elt F) ℕ UU ℕ)} :
    iprop(ctx xs ws K
        ∗ owing (F := F) c [(1, 5), (1, 6)]
        ∗ stA (F := F) c 5
        ∗ goPay (F := F) c 5
        ∗ hold (F := F) c cc0_scratch0 (cut (val xs ws 5 c))
        ∗ hold (F := F) c cc0_stg1_0 (opcRow c)
        ∗ hold (F := F) c cc0_stg4_0 (val xs ws 5 c)
        ∗ hold (F := F) c cc0_stg0_0 (ptnRow c))
      ⊢ iprop(((
        owing (F := F) c [(1, 6)]
        ∗ stD (F := F) c 5
        ∗ anyAt (F := F) c sbM
        ∗ recvPay xs ws c 5
        ∗ hold (F := F) c cc0_stg1_0 (opcRow c)
        ∗ hold (F := F) c cc0_stg4_0 (val xs ws 6 c)
        ∗ hold (F := F) c cc0_stg0_0 (ptnRow c))
            -∗ Q ⟨⟩)
          -∗ WP c (k0_part12 tabM h0 opM h1 xM h2 wM h3 outM h4 sbM h5 bufM h6 tsM h7 tdM h8 cc0_scratch4 cc0_scratch5 cc0_scratch6 cc0_scratch7 (pw c 5) (chk c 5) (Scalar.muli (pw c 5) 1#32) 0#32) Q) := by
  rw [k0_part12_eq_skeleton]; unfold k0_part12_skel
  simp only [Prog.lift, Prog.bind_op, Prog.bind_ret, Prog.pure_eq_ret]
  iintro ⟨#Hc, HO, S5, G5, HS, HP, HV, HT⟩ Hk
  iapply (wp_data xs ws K c 5 _ (dev_eq rfl c 5) (slotP 5 0) (sem0 5) (sem1 5)) $$ [HO S5 G5 HS]
  · isplitr; · iexact Hc
    isplitl [HO]; · iexact HO
    isplitl [S5]; · iexact S5
    isplitl [G5]; · iexact G5
    iexact HS
  iintro ⟨HO, S5⟩
  iapply (wp_waitS xs ws K c 5 [(1, 6)] (by decide) (sem0 5)) $$ [HO S5]
  · isplitr; · iexact Hc
    isplitl [HO]; · iexact HO
    iexact S5
  iintro ⟨HO, S5, HS⟩
  iapply (wp_waitR xs ws K c 5 [(1, 6)] (by decide) (slotP 5 0) (sem1 5)) $$ [HO S5]
  · isplitr; · iexact Hc
    isplitl [HO]; · iexact HO
    iexact S5
  iintro ⟨HO, S5, B5⟩
  iapply (wp_opc c 5) $$ HP; iintro HP
  iapply (wp_ifAdd xs ws c 5 0 (slotP 5 0) _ (ow_add c 5) rfl) $$ [HV B5]
  · isplitl [HV]; · iexact HV
    iexact B5
  iintro ⟨HV, B5⟩
  iapply (wp_ifRep' xs ws c 5 0 (slotP 5 0) (ow_rep c 5) rfl) $$ [HV B5]
  · isplitl [HV]; · iexact HV
    iexact B5
  iintro ⟨HV, B5⟩
  iapply (wp_tab c 6) $$ HT; iintro HT
  iapply (le_ret c)
  iapply Hk
  isplitl [HO]; · iexact HO
  isplitl [S5]; · iexact S5
  isplitl [HS]; · iexact HS
  isplitl [B5]; · iexact B5
  isplitl [HP]; · iexact HP
  isplitl [HV]; · iexact HV
  iexact HT

theorem wp_part13 (c : Dev nD) {Q : (PUnit) → sProp (MT nD τ sig Unit (Elt F) ℕ UU ℕ)} :
    iprop(ctx xs ws K
        ∗ owing (F := F) c [(1, 6)]
        ∗ tkC (F := F) c 6
        ∗ reached ER (dCell (ptn c 6) 1 6) 0
        ∗ hold (F := F) c cc0_stg4_0 (val xs ws 6 c)
        ∗ anyAt (F := F) c sbM
        ∗ hold (F := F) c cc0_stg0_0 (ptnRow c)
        ∗ stA (F := F) c 6)
      ⊢ iprop(((
        owing (F := F) c []
        ∗ tkD (F := F) c 6
        ∗ anyAt (F := F) c (rowOf 6)
        ∗ hold (F := F) c cc0_stg4_0 (val xs ws 6 c)
        ∗ anyAt (F := F) c sbM
        ∗ hold (F := F) c cc0_stg0_0 (ptnRow c)
        ∗ stD (F := F) c 6
        ∗ recvPay xs ws c 6)
            -∗ Q ⟨⟩)
          -∗ WP c (k0_part13 tabM h0 opM h1 xM h2 wM h3 outM h4 sbM h5 bufM h6 tsM h7 tdM h8 cc0_scratch4 cc0_scratch5 cc0_scratch6 cc0_scratch7) Q) := by
  rw [k0_part13_eq_skeleton]; unfold k0_part13_skel
  simp only [Prog.lift, Prog.bind_op, Prog.bind_ret, Prog.pure_eq_ret]
  iintro ⟨#Hc, HO, T6, R6, HV, HS, HT, S6⟩ Hk
  iapply (wp_waitTR xs ws K c 6 [(1, 6)] (by decide) (rowP 6) (sem3 6)) $$ [HO T6 R6]
  · isplitr; · iexact Hc
    isplitl [HO]; · iexact HO
    isplitl [T6]; · iexact T6
    iexact R6
  iintro ⟨HO, T6, W6, G6⟩
  iapply (wp_ldO c _) $$ HV; iintro HV
  iapply (wp_ldS c) $$ HS; iintro %_ HS
  iapply (wp_cut xs ws c 6 rfl) $$ HS; iintro HS
  iapply (wp_tab c 6) $$ HT; iintro HT
  iapply (wp_asm c (chk c 6))
  iapply (wp_data xs ws K c 6 _ (dev_eq rfl c 6) (slotP 6 1) (sem0 6) (sem1 6)) $$ [HO S6 G6 HS]
  · isplitr; · iexact Hc
    isplitl [HO]; · iexact HO
    isplitl [S6]; · iexact S6
    isplitl [G6]; · iexact G6
    iexact HS
  iintro ⟨HO, S6⟩
  iapply (wp_waitS xs ws K c 6 [] (by decide) (sem0 6)) $$ [HO S6]
  · isplitr; · iexact Hc
    isplitl [HO]; · iexact HO
    iexact S6
  iintro ⟨HO, S6, HS⟩
  iapply (wp_waitR xs ws K c 6 [] (by decide) (slotP 6 1) (sem1 6)) $$ [HO S6]
  · isplitr; · iexact Hc
    isplitl [HO]; · iexact HO
    iexact S6
  iintro ⟨HO, S6, B6⟩
  iapply (le_ret c)
  iapply Hk
  isplitl [HO]; · iexact HO
  isplitl [T6]; · iexact T6
  isplitl [W6]; · iexact W6
  isplitl [HV]; · iexact HV
  isplitl [HS]; · iexact HS
  isplitl [HT]; · iexact HT
  isplitl [S6]; · iexact S6
  iexact B6

end Cert.Run
-- ==== Proof.Body.lean ====
/-
  The kernel on one device: its parts in a row.
-/
module

public import proofs.«01_k».proof.Proof.Parts

@[expose] public section

set_option maxRecDepth 20000

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → FVec F S2048x64 .bf16) (ws : Dev nD → FVec F S64x2048 .bf16) (K : Dev nD × Fin 29 → ℕ)
variable {h0 : tabM.IsWhole} {h1 : opM.IsWhole} {h2 : xM.IsWhole} {h3 : wM.IsWhole} {h4 : outM.IsWhole} {h5 : sbM.IsWhole} {h6 : bufM.IsWhole}
  {h7 : tsM.IsWhole} {h8 : tdM.IsWhole}

theorem wp_seq (c : Dev nD) {α β : Type} {p : PG (F := F) α} {k : α → PG (F := F) β} {Q : β → sProp 𝕄} :
    WP c p (fun a => WP c (k a) Q) ⊢ WP c (p >>= k) Q := Entails.of_eq (wp_bind frame _ Set.univ p k Q).symm

/-- What a device enters the kernel with, -/
def bodyPre (c : Dev nD) (f : FVec F S2048x2048 .f32) : sProp 𝕄 :=
  iprop(hold (F := F) c cc0_stg0_0 (ptnRow c)
        ∗ hold (F := F) c cc0_stg1_0 (opcRow c)
        ∗ owing (F := F) c ord
        ∗ hold (F := F) c cc0_stg2_0 (xs c)
        ∗ hold (F := F) c cc0_stg3_0 (ws c)
        ∗ hold (F := F) c cc0_stg4_0 f
        ∗ anyAt (F := F) c sbM
        ∗ anyAt (F := F) c tsM
        ∗ cred (tallyAt (barCell c) () 7)
        ∗ atPos ER (barCell c) 0 ∅ 0
        ∗ sigRes (F := F) c 0
        ∗ sigRes (F := F) c 1
        ∗ sigRes (F := F) c 2
        ∗ sigRes (F := F) c 3
        ∗ sigRes (F := F) c 4
        ∗ sigRes (F := F) c 5
        ∗ sigRes (F := F) c 6
        ∗ stA (F := F) c 0
        ∗ stA (F := F) c 1
        ∗ stA (F := F) c 2
        ∗ stA (F := F) c 3
        ∗ stA (F := F) c 4
        ∗ stA (F := F) c 5
        ∗ stA (F := F) c 6
        ∗ tkA (F := F) c 2
        ∗ tkA (F := F) c 3
        ∗ tkA (F := F) c 4
        ∗ tkA (F := F) c 5
        ∗ tkA (F := F) c 6)
/-- and what it leaves with. -/
def bodyPost (c : Dev nD) : sProp 𝕄 :=
  iprop(hold (F := F) c cc0_stg0_0 (ptnRow c)
        ∗ hold (F := F) c cc0_stg1_0 (opcRow c)
        ∗ owing (F := F) c []
        ∗ hold (F := F) c cc0_stg2_0 (xs c)
        ∗ hold (F := F) c cc0_stg3_0 (ws c)
        ∗ hold (F := F) c cc0_stg4_0 (outAt xs ws c)
        ∗ anyAt (F := F) c sbM
        ∗ anyAt (F := F) c tsM
        ∗ semVal (barCell c) 0
        ∗ stD (F := F) c 0
        ∗ stD (F := F) c 1
        ∗ stD (F := F) c 2
        ∗ stD (F := F) c 3
        ∗ stD (F := F) c 4
        ∗ stD (F := F) c 5
        ∗ stD (F := F) c 6
        ∗ tkD (F := F) c 2
        ∗ tkD (F := F) c 3
        ∗ tkD (F := F) c 4
        ∗ tkD (F := F) c 5
        ∗ tkD (F := F) c 6
        ∗ anyAt (F := F) c (rowOf 2)
        ∗ anyAt (F := F) c (rowOf 3)
        ∗ anyAt (F := F) c (rowOf 4)
        ∗ anyAt (F := F) c (rowOf 5)
        ∗ anyAt (F := F) c (rowOf 6)
        ∗ recvPay xs ws c 5
        ∗ recvPay xs ws c 6)

theorem wp_body (c : Dev nD) (f : FVec F S2048x2048 .f32) {Q : PUnit → sProp (MT nD τ sig Unit (Elt F) ℕ UU ℕ)} :
    iprop(ctx xs ws K ∗ bodyPre xs ws c f)
      ⊢ iprop((bodyPost xs ws c -∗ Q ⟨⟩) -∗ WP c (cc0_body tabM h0 opM h1 xM h2 wM h3 outM h4 sbM h5 bufM h6 tsM h7 tdM h8 cc0_scratch4 cc0_scratch5 cc0_scratch6 cc0_scratch7) Q) := by
  unfold bodyPre bodyPost
  rw [cc0_body_eq_skeleton]; unfold cc0_body_skel
  simp only [Prog.lift, Prog.bind_op, Prog.bind_ret, Prog.pure_eq_ret]
  iintro ⟨#Hc, HT, HP, HO, HX, HW, HV, HS, HK, CB, AB, Q0, Q1, Q2, Q3, Q4, Q5, Q6, S0, S1, S2, S3, S4, S5, S6, T2, T3, T4, T5, T6⟩ Hk
  iapply (wp_seq c)
  iapply (wp_part1 xs ws K c) $$ [HT HO Q0 Q1 Q2 Q3 Q4 Q5]
  · isplitr; · iexact Hc
    isplitl [HT]; · iexact HT
    isplitl [HO]; · iexact HO
    isplitl [Q0]; · iexact Q0
    isplitl [Q1]; · iexact Q1
    isplitl [Q2]; · iexact Q2
    isplitl [Q3]; · iexact Q3
    isplitl [Q4]; · iexact Q4
    iexact Q5
  iintro ⟨HT, HO⟩
  iapply (wp_seq c)
  iapply (wp_part2 xs ws K c f) $$ [HO Q6 CB AB HX HW HV HS HT S0]
  · isplitr; · iexact Hc
    isplitl [HO]; · iexact HO
    isplitl [Q6]; · iexact Q6
    isplitl [CB]; · iexact CB
    isplitl [AB]; · iexact AB
    isplitl [HX]; · iexact HX
    isplitl [HW]; · iexact HW
    isplitl [HV]; · iexact HV
    isplitl [HS]; · iexact HS
    isplitl [HT]; · iexact HT
    iexact S0
  iintro ⟨HO, Z, G1, R2, P2, R3, P3, R4, P4, R5, P5, R6, P6, HX, HW, HV, HT, S0⟩
  iapply (wp_seq c)
  iapply (wp_part3 xs ws K c) $$ [HO S0 HP HV HT T2 P2 HK]
  · isplitr; · iexact Hc
    isplitl [HO]; · iexact HO
    isplitl [S0]; · iexact S0
    isplitl [HP]; · iexact HP
    isplitl [HV]; · iexact HV
    isplitl [HT]; · iexact HT
    isplitl [T2]; · iexact T2
    isplitl [P2]; · iexact P2
    iexact HK
  iintro ⟨HO, S0, HS, HP, HV, HT, T2, HK⟩
  iapply (wp_seq c)
  iapply (wp_part4 xs ws K c) $$ [HV HS HT HO S1 G1 HP]
  · isplitr; · iexact Hc
    isplitl [HV]; · iexact HV
    isplitl [HS]; · iexact HS
    isplitl [HT]; · iexact HT
    isplitl [HO]; · iexact HO
    isplitl [S1]; · iexact S1
    isplitl [G1]; · iexact G1
    iexact HP
  iintro ⟨HV, HS, HT, HO, S1, B1, HP⟩
  iapply (wp_seq c)
  iapply (wp_part5 xs ws K c) $$ [HV B1 HT HO T3 P3 HK T2 R2]
  · isplitr; · iexact Hc
    isplitl [HV]; · iexact HV
    isplitl [B1]; · iexact B1
    isplitl [HT]; · iexact HT
    isplitl [HO]; · iexact HO
    isplitl [T3]; · iexact T3
    isplitl [P3]; · iexact P3
    isplitl [HK]; · iexact HK
    isplitl [T2]; · iexact T2
    iexact R2
  iintro ⟨HV, HT, HO, T3, HK, T2, W2, G2⟩
  iapply (wp_seq c)
  iapply (wp_part6 xs ws K c) $$ [HS HT HO S2 G2 HP HV]
  · isplitr; · iexact Hc
    isplitl [HS]; · iexact HS
    isplitl [HT]; · iexact HT
    isplitl [HO]; · iexact HO
    isplitl [S2]; · iexact S2
    isplitl [G2]; · iexact G2
    isplitl [HP]; · iexact HP
    iexact HV
  iintro ⟨HS, HT, HO, S2, B2, HP, HV⟩
  iapply (wp_seq c)
  iapply (wp_part7 xs ws K c) $$ [HV B2 HT HO T4 P4 HK T3 R3 HS]
  · isplitr; · iexact Hc
    isplitl [HV]; · iexact HV
    isplitl [B2]; · iexact B2
    isplitl [HT]; · iexact HT
    isplitl [HO]; · iexact HO
    isplitl [T4]; · iexact T4
    isplitl [P4]; · iexact P4
    isplitl [HK]; · iexact HK
    isplitl [T3]; · iexact T3
    isplitl [R3]; · iexact R3
    iexact HS
  iintro ⟨HV, HT, HO, T4, HK, T3, W3, G3, HS⟩
  iapply (wp_seq c)
  iapply (wp_part8 xs ws K c) $$ [HS HT HO S3 G3 HP HV]
  · isplitr; · iexact Hc
    isplitl [HS]; · iexact HS
    isplitl [HT]; · iexact HT
    isplitl [HO]; · iexact HO
    isplitl [S3]; · iexact S3
    isplitl [G3]; · iexact G3
    isplitl [HP]; · iexact HP
    iexact HV
  iintro ⟨HS, HT, HO, S3, B3, HP, HV⟩
  iapply (wp_seq c)
  iapply (wp_part9 xs ws K c) $$ [HT HO T5 P5 HK B3 T4 R4 HV HS]
  · isplitr; · iexact Hc
    isplitl [HT]; · iexact HT
    isplitl [HO]; · iexact HO
    isplitl [T5]; · iexact T5
    isplitl [P5]; · iexact P5
    isplitl [HK]; · iexact HK
    isplitl [B3]; · iexact B3
    isplitl [T4]; · iexact T4
    isplitl [R4]; · iexact R4
    isplitl [HV]; · iexact HV
    iexact HS
  iintro ⟨HT, HO, T5, HK, T4, W4, G4, HV, HS⟩
  iapply (wp_seq c)
  iapply (wp_part10 xs ws K c) $$ [HO S4 G4 HS HP HV HT]
  · isplitr; · iexact Hc
    isplitl [HO]; · iexact HO
    isplitl [S4]; · iexact S4
    isplitl [G4]; · iexact G4
    isplitl [HS]; · iexact HS
    isplitl [HP]; · iexact HP
    isplitl [HV]; · iexact HV
    iexact HT
  iintro ⟨HO, S4, HS, B4, HP, HV, HT⟩
  iapply (wp_seq c)
  iapply (wp_part11 xs ws K c) $$ [HO T6 P6 HK B4 HT T5 R5 HV HS]
  · isplitr; · iexact Hc
    isplitl [HO]; · iexact HO
    isplitl [T6]; · iexact T6
    isplitl [P6]; · iexact P6
    isplitl [HK]; · iexact HK
    isplitl [B4]; · iexact B4
    isplitl [HT]; · iexact HT
    isplitl [T5]; · iexact T5
    isplitl [R5]; · iexact R5
    isplitl [HV]; · iexact HV
    iexact HS
  iintro ⟨HO, T6, HK, HT, T5, W5, G5, HV, HS⟩
  iapply (wp_seq c)
  iapply (wp_part12 xs ws K c) $$ [HO S5 G5 HS HP HV HT]
  · isplitr; · iexact Hc
    isplitl [HO]; · iexact HO
    isplitl [S5]; · iexact S5
    isplitl [G5]; · iexact G5
    isplitl [HS]; · iexact HS
    isplitl [HP]; · iexact HP
    isplitl [HV]; · iexact HV
    iexact HT
  iintro ⟨HO, S5, HS, B5, HP, HV, HT⟩
  iapply (wp_seq c)
  iapply (wp_part13 xs ws K c) $$ [HO T6 R6 HV HS HT S6]
  · isplitr; · iexact Hc
    isplitl [HO]; · iexact HO
    isplitl [T6]; · iexact T6
    isplitl [R6]; · iexact R6
    isplitl [HV]; · iexact HV
    isplitl [HS]; · iexact HS
    isplitl [HT]; · iexact HT
    iexact S6
  iintro ⟨HO, T6, W6, HV, HS, HT, S6, B6⟩
  iapply (wp_opc c 6) $$ HP; iintro HP
  iapply (wp_ifAdd xs ws c 6 1 (slotP 6 1) _ (ow_add c 6) rfl) $$ [HV B6]
  · isplitl [HV]; · iexact HV
    iexact B6
  iintro ⟨HV, B6⟩
  iapply (wp_ifRep' xs ws c 6 1 (slotP 6 1) (ow_rep c 6) rfl) $$ [HV B6]
  · isplitl [HV]; · iexact HV
    iexact B6
  iintro ⟨HV, B6⟩
  iapply (wp_ldO c _) $$ HV; iintro HV
  iapply (wp_ldO c _) $$ HV; iintro HV
  iapply (wp_stO c _ _) $$ HV; iintro HV
  iapply (le_ret c)
  iapply Hk
  isplitl [HT]; · iexact HT
  isplitl [HP]; · iexact HP
  isplitl [HO]; · iexact HO
  isplitl [HX]; · iexact HX
  isplitl [HW]; · iexact HW
  isplitl [HV]; · iexact HV
  isplitl [HS]; · iexact HS
  isplitl [HK]; · iexact HK
  isplitl [Z]; · iexact Z
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [T2]; · iexact T2
  isplitl [T3]; · iexact T3
  isplitl [T4]; · iexact T4
  isplitl [T5]; · iexact T5
  isplitl [T6]; · iexact T6
  isplitl [W2]; · iexact W2
  isplitl [W3]; · iexact W3
  isplitl [W4]; · iexact W4
  isplitl [W5]; · iexact W5
  isplitl [W6]; · iexact W6
  isplitl [B5]; · iexact B5
  iexact B6

end Cert.Run
-- ==== Proof.Cut.lean ====
/-
  The two landing buffers cut into their slots and rows, and joined again.
-/
module

public import proofs.«01_k».proof.Proof.Body

@[expose] public section

set_option maxRecDepth 20000

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

def slotSet (p : Fin 2) : Finset cc0_scratch1.ty.shape.Idx := (slotOf p.val).view.set
def rowSet (p : Fin 7) : Finset cc0_scratch3.ty.shape.Idx := (rowOf p.val).view.set

theorem slotSet_eq (p : Fin 2) : slotSet p = (Rect.unit (s := cc0_scratch1.ty.shape) ![(p.val + 1) % 2, 0, 0] S1x2048x2048.size (slot_inb (p.val + 1))).set := by
  unfold slotSet slotOf slotM
  refine (Memref.set_view_squeeze _ _).trans ?_
  exact View.set_slice_whole cc0_scratch1 (Rect.unit (s := cc0_scratch1.ty.shape) ![(p.val + 1) % 2, 0, 0] S1x2048x2048.size (slot_inb (p.val + 1)))
theorem rowSet_eq (p : Fin 7) : rowSet p = (Rect.unit (s := cc0_scratch3.ty.shape) ![p.val % 7, 0, 0] S1x8x128.size (row_inb p.val)).set := by
  unfold rowSet rowOf rowM
  refine (Memref.set_view_squeeze _ _).trans ?_
  exact View.set_slice_whole cc0_scratch3 (Rect.unit (s := cc0_scratch3.ty.shape) ![p.val % 7, 0, 0] S1x8x128.size (row_inb p.val))

theorem slot_disj (p q : Fin 2) (h : p ≠ q) : Disjoint (slotSet p) (slotSet q) := by
  rw [slotSet_eq, slotSet_eq]
  refine Rect.unit_disjoint 0 ?_
  have := Fin.val_ne_of_ne h
  show (p.val + 1) % 2 + 1 ≤ (q.val + 1) % 2 ∨ (q.val + 1) % 2 + 1 ≤ (p.val + 1) % 2
  omega
theorem row_disj (p q : Fin 7) (h : p ≠ q) : Disjoint (rowSet p) (rowSet q) := by
  rw [rowSet_eq, rowSet_eq]
  refine Rect.unit_disjoint 0 ?_
  have := Fin.val_ne_of_ne h
  show p.val % 7 + 1 ≤ q.val % 7 ∨ q.val % 7 + 1 ≤ p.val % 7
  omega

/-- What of the landing buffers no slot and no row covers. -/
def slotRest (c : Dev nD) : sProp 𝕄 :=
  iprop(∃ f : Buf (Elt F) ((c : Thread nD τ).loc cc0_scratch1), ((c : Thread nD τ).loc cc0_scratch1) ↦[Ring.restOf (ℓ := (c : Thread nD τ).loc cc0_scratch1) slotSet]{fullShare} f)
def rowRest (c : Dev nD) : sProp 𝕄 :=
  iprop(∃ f : Buf (Elt F) ((c : Thread nD τ).loc cc0_scratch3), ((c : Thread nD τ).loc cc0_scratch3) ↦[Ring.restOf (ℓ := (c : Thread nD τ).loc cc0_scratch3) rowSet]{fullShare} f)

theorem slot_fam (c : Dev nD) : (bigSep Finset.univ (fun b : Fin 2 => iprop(∃ f : Buf (Elt F) ((c : Thread nD τ).loc cc0_scratch1), ((c : Thread nD τ).loc cc0_scratch1) ↦[slotSet b]{fullShare} f)) : sProp 𝕄)
    = iprop(anyAt (F := F) c (slotOf 0) ∗ anyAt (F := F) c (slotOf 1)) := bigSep_univ_eq_bigSepL [0, 1] (by decide) (by decide) _
theorem row_fam (c : Dev nD) : (bigSep Finset.univ (fun b : Fin 7 => iprop(∃ f : Buf (Elt F) ((c : Thread nD τ).loc cc0_scratch3), ((c : Thread nD τ).loc cc0_scratch3) ↦[rowSet b]{fullShare} f)) : sProp 𝕄)
    = iprop(anyAt (F := F) c (rowOf 0) ∗ anyAt (F := F) c (rowOf 1) ∗ anyAt (F := F) c (rowOf 2) ∗ anyAt (F := F) c (rowOf 3) ∗ anyAt (F := F) c (rowOf 4) ∗ anyAt (F := F) c (rowOf 5) ∗ anyAt (F := F) c (rowOf 6)) := bigSep_univ_eq_bigSepL [0, 1, 2, 3, 4, 5, 6] (by decide) (by decide) _

theorem slots_cut (c : Dev nD) : (iprop(∃ f, hold (F := F) c cc0_scratch1 f) : sProp 𝕄)
    ⊢ iprop((anyAt (F := F) c (slotOf 0) ∗ anyAt (F := F) c (slotOf 1)) ∗ slotRest (F := F) c) := by
  refine (Ring.fam_split_ex (Ix := Unit) (Name := ℕ) (U := UU) (Lvl := ℕ) (ℓ := (c : Thread nD τ).loc cc0_scratch1) slotSet slot_disj).trans ?_
  rw [slot_fam]
  exact .rfl
theorem slots_join (c : Dev nD) : iprop((anyAt (F := F) c (slotOf 0) ∗ anyAt (F := F) c (slotOf 1)) ∗ slotRest (F := F) c)
    ⊢ (iprop(∃ f, hold (F := F) c cc0_scratch1 f) : sProp 𝕄) := by
  unfold slotRest
  iintro ⟨H, ⟨%r, Hr⟩⟩
  iapply (Ring.fam_join (Ix := Unit) (Name := ℕ) (U := UU) (Lvl := ℕ) (ℓ := (c : Thread nD τ).loc cc0_scratch1) slotSet slot_disj r)
  isplitl [H]
  · rw [slot_fam]; iexact H
  · iexists r; iexact Hr
theorem rows_cut (c : Dev nD) : (iprop(∃ f, hold (F := F) c cc0_scratch3 f) : sProp 𝕄)
    ⊢ iprop((anyAt (F := F) c (rowOf 0) ∗ anyAt (F := F) c (rowOf 1) ∗ anyAt (F := F) c (rowOf 2) ∗ anyAt (F := F) c (rowOf 3) ∗ anyAt (F := F) c (rowOf 4)
      ∗ anyAt (F := F) c (rowOf 5) ∗ anyAt (F := F) c (rowOf 6)) ∗ rowRest (F := F) c) := by
  refine (Ring.fam_split_ex (Ix := Unit) (Name := ℕ) (U := UU) (Lvl := ℕ) (ℓ := (c : Thread nD τ).loc cc0_scratch3) rowSet row_disj).trans ?_
  rw [row_fam]
  exact .rfl
theorem rows_join (c : Dev nD) : iprop((anyAt (F := F) c (rowOf 0) ∗ anyAt (F := F) c (rowOf 1) ∗ anyAt (F := F) c (rowOf 2) ∗ anyAt (F := F) c (rowOf 3) ∗ anyAt (F := F) c (rowOf 4)
      ∗ anyAt (F := F) c (rowOf 5) ∗ anyAt (F := F) c (rowOf 6)) ∗ rowRest (F := F) c)
    ⊢ (iprop(∃ f, hold (F := F) c cc0_scratch3 f) : sProp 𝕄) := by
  unfold rowRest
  iintro ⟨H, ⟨%r, Hr⟩⟩
  iapply (Ring.fam_join (Ix := Unit) (Name := ℕ) (U := UU) (Lvl := ℕ) (ℓ := (c : Thread nD τ).loc cc0_scratch3) rowSet row_disj r)
  isplitl [H]
  · rw [row_fam]; iexact H
  · iexists r; iexact Hr

end Cert.Run
-- ==== Proof.Creds.lean ====
/-
  What the launch deals every device for its waits: what the devices owe one another, counted at the cells that are owed to.
-/
module

public import proofs.«01_k».proof.Proof.Body

@[expose] public section

set_option maxRecDepth 20000

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The cell of `c` itself that a payment of its partner goes to. -/
def mineCell (c : Dev nD) (x : ℕ × ℕ) : GSem nD τ sig :=
  if x.1 = 0 then barCell c else if x.1 = 1 then dCell c 1 x.2 else dCell c 3 x.2

theorem due_mine (c : Dev nD) (x : ℕ × ℕ) : dueCell c x = mineCell (ptn c x.2) x := rfl

def mine (c : Dev nD) : List (ℕ × ℕ) → CellTallies nD τ sig Unit
  | [] => 0
  | x :: l => mine c l + tallyAt (mineCell c x) () (dueAmt x)

def swap (n : ℕ) (hn : n < 7) : Dev nD ≃ Dev nD := ⟨fun c => ptn c n, fun c => ptn c n, fun c => ptn_ptn c hn, fun c => ptn_ptn c hn⟩

theorem sum_owed : ∀ l : List (ℕ × ℕ), (∀ x ∈ l, x.2 < 7) → (∑ c : Dev nD, owed c l) = ∑ c : Dev nD, mine c l
  | [], _ => rfl
  | x :: l, h => by
    unfold owed mine
    rw [Finset.sum_add_distrib, Finset.sum_add_distrib, sum_owed l fun y hy => h y (List.mem_cons_of_mem _ hy)]
    congr 1
    rw [← Equiv.sum_comp (swap x.2 (h x List.mem_cons_self)) fun c => tallyAt (mineCell c x) () (dueAmt x)]
    rfl

theorem mine_core : ∀ (l : List (ℕ × ℕ)) (c : Dev nD) (g : GSem nD τ sig), mine c l g ≠ 0 → g.1 = (c.tc : Thread nD τ)
  | [], c, g, h => absurd rfl h
  | x :: l, c, g, h => by
    unfold mine at h
    by_cases hg : g = mineCell c x
    · rw [hg]; unfold mineCell; (repeat' split) <;> rfl
    · refine mine_core l c g fun h' => h ?_
      rw [Pi.add_apply, h', tallyAt_ne_cell hg, zero_add]

theorem launch_mine (c : Dev nD) : (Pipeline.launchCred (fun d => owed d ord) c : sProp 𝕄) = cred (mine c ord) :=
  Pipeline.launchCred_of_sum _ (fun d => mine d ord) (sum_owed ord (by decide)) (fun d g h => mine_core ord d g h) c

theorem mine_bar (c : Dev nD) (n : ℕ) (l : List (ℕ × ℕ)) : (cred (mine c ((0, n) :: l)) : sProp 𝕄) ⊢ iprop(cred (tallyAt (barCell c) () 1) ∗ cred (mine c l)) := by
  conv_lhs => unfold mine
  rw [mineCell, dueAmt, if_pos rfl, if_pos rfl]
  iintro H
  ihave H := (cred_add _ _).1 $$ H
  icases H with ⟨H1, H2⟩
  isplitl [H2] <;> iassumption
theorem mine_data (c : Dev nD) (n : ℕ) (l : List (ℕ × ℕ)) : (cred (mine c ((1, n) :: l)) : sProp 𝕄) ⊢ iprop(cred (tallyAt (dCell c 1 n) () N) ∗ cred (mine c l)) := by
  conv_lhs => unfold mine
  rw [mineCell, dueAmt, if_neg Nat.one_ne_zero, if_neg Nat.one_ne_zero, if_pos rfl, if_pos rfl]
  iintro H
  ihave H := (cred_add _ _).1 $$ H
  icases H with ⟨H1, H2⟩
  isplitl [H2] <;> iassumption
theorem mine_tok (c : Dev nD) (n : ℕ) (l : List (ℕ × ℕ)) : (cred (mine c ((2, n) :: l)) : sProp 𝕄) ⊢ iprop(cred (tallyAt (dCell c 3 n) () NT) ∗ cred (mine c l)) := by
  conv_lhs => unfold mine
  rw [mineCell, dueAmt, if_neg (show ¬ (2 : ℕ) = 0 by decide), if_neg (show ¬ (2 : ℕ) = 1 by decide),
    if_neg (show ¬ (2 : ℕ) = 0 by decide), if_neg (show ¬ (2 : ℕ) = 1 by decide)]
  iintro H
  ihave H := (cred_add _ _).1 $$ H
  icases H with ⟨H1, H2⟩
  isplitl [H2] <;> iassumption

theorem cred_more (c : Dev nD) (k : ℕ) : iprop(cred (tallyAt (barCell c) () k) ∗ cred (tallyAt (barCell c) () 1)) ⊢ (cred (tallyAt (barCell c) () (k + 1)) : sProp 𝕄) := by
  rw [← tallyAt_add]; exact (cred_add _ _).2

/-- A device's credits. -/
def creds (c : Dev nD) : sProp 𝕄 :=
  iprop(cred (tallyAt (barCell c) () 7)
    ∗ cred (tallyAt (dCell c 1 0) () N) ∗ cred (tallyAt (dCell c 1 1) () N) ∗ cred (tallyAt (dCell c 1 2) () N) ∗ cred (tallyAt (dCell c 1 3) () N)
    ∗ cred (tallyAt (dCell c 1 4) () N) ∗ cred (tallyAt (dCell c 1 5) () N) ∗ cred (tallyAt (dCell c 1 6) () N)
    ∗ cred (tallyAt (dCell c 3 2) () NT) ∗ cred (tallyAt (dCell c 3 3) () NT) ∗ cred (tallyAt (dCell c 3 4) () NT) ∗ cred (tallyAt (dCell c 3 5) () NT)
    ∗ cred (tallyAt (dCell c 3 6) () NT))

theorem creds_intro (c : Dev nD) : (Pipeline.launchCred (fun d => owed d ord) c : sProp 𝕄) ⊢ creds (F := F) c := by
  rw [launch_mine]
  unfold creds ord
  iintro H
  ihave H := (mine_bar c 0 _) $$ H; icases H with ⟨B0, H⟩
  ihave H := (mine_bar c 1 _) $$ H; icases H with ⟨B1, H⟩
  ihave H := (mine_bar c 2 _) $$ H; icases H with ⟨B2, H⟩
  ihave H := (mine_bar c 3 _) $$ H; icases H with ⟨B3, H⟩
  ihave H := (mine_bar c 4 _) $$ H; icases H with ⟨B4, H⟩
  ihave H := (mine_bar c 5 _) $$ H; icases H with ⟨B5, H⟩
  ihave H := (mine_bar c 6 _) $$ H; icases H with ⟨B6, H⟩
  ihave H := (mine_data c 0 _) $$ H; icases H with ⟨D0, H⟩
  ihave H := (mine_tok c 2 _) $$ H; icases H with ⟨T2, H⟩
  ihave H := (mine_data c 1 _) $$ H; icases H with ⟨D1, H⟩
  ihave H := (mine_tok c 3 _) $$ H; icases H with ⟨T3, H⟩
  ihave H := (mine_data c 2 _) $$ H; icases H with ⟨D2, H⟩
  ihave H := (mine_tok c 4 _) $$ H; icases H with ⟨T4, H⟩
  ihave H := (mine_data c 3 _) $$ H; icases H with ⟨D3, H⟩
  ihave H := (mine_tok c 5 _) $$ H; icases H with ⟨T5, H⟩
  ihave H := (mine_data c 4 _) $$ H; icases H with ⟨D4, H⟩
  ihave H := (mine_tok c 6 _) $$ H; icases H with ⟨T6, H⟩
  ihave H := (mine_data c 5 _) $$ H; icases H with ⟨D5, H⟩
  ihave H := (mine_data c 6 _) $$ H; icases H with ⟨D6, -⟩
  ihave B := (cred_more c 1) $$ [B0 B1]; · isplitl [B0] <;> iassumption
  ihave B := (cred_more c 2) $$ [B B2]; · isplitl [B] <;> iassumption
  ihave B := (cred_more c 3) $$ [B B3]; · isplitl [B] <;> iassumption
  ihave B := (cred_more c 4) $$ [B B4]; · isplitl [B] <;> iassumption
  ihave B := (cred_more c 5) $$ [B B5]; · isplitl [B] <;> iassumption
  ihave B := (cred_more c 6) $$ [B B6]; · isplitl [B] <;> iassumption
  isplitl [B]; · iexact B
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [T2]; · iexact T2
  isplitl [T3]; · iexact T3
  isplitl [T4]; · iexact T4
  isplitl [T5]; · iexact T5
  iexact T6

end Cert.Run
-- ==== Proof.Enter.lean ====
/-
  From what a device is dealt to what it enters the kernel with, and from what it leaves the kernel with back.
-/
module

public import proofs.«01_k».proof.Proof.Cut
public import proofs.«01_k».proof.Proof.Creds

@[expose] public section

set_option maxRecDepth 20000

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → FVec F S2048x64 .bf16) (ws : Dev nD → FVec F S64x2048 .bf16) (K : Dev nD × Fin 29 → ℕ)

/-- The kernel's own semaphores, by kind and step. -/
abbrev osem (kn : Fin 4 × Fin 7) : SemLoc sig := .dma (semN kn.1.val kn.2.val)

theorem bigSep_seven (Φ : Fin 7 → sProp (MT nD τ sig Unit (Elt F) ℕ UU ℕ)) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_four (Φ : Fin 4 → sProp (MT nD τ sig Unit (Elt F) ℕ UU ℕ)) : bigSep Finset.univ Φ = iprop(Φ 0 ∗ Φ 1 ∗ Φ 2 ∗ Φ 3) :=
  bigSep_univ_eq_bigSepL [0, 1, 2, 3] (by decide) (by decide) Φ

/-- The tokens of the duties that `c` pays at step `n`. -/
def tokn (c : Dev nD) (n : ℕ) (hn : n < 7 := by decide) : sProp 𝕄 :=
  iprop(dutyTok ER (barCell (ptn c n)) 0 (⟨n, hn⟩ : Fin 7) ∗ dutyTok ER (dCell c 0 n) 0 (0 : Fin 7) ∗ dutyTok ER (dCell (ptn c n) 1 n) 0 (0 : Fin 7)
    ∗ dutyTok ER (dCell c 2 n) 0 (0 : Fin 7) ∗ dutyTok ER (dCell (ptn c n) 3 n) 0 (0 : Fin 7))
def toks (c : Dev nD) : sProp 𝕄 := bigSep Finset.univ (fun n : Fin 7 => tokn (F := F) c n.val n.isLt)
/-- The place of a cell of `c`, opened. -/
def posn (c : Dev nD) (k n : ℕ) : sProp 𝕄 := iprop(atPos ER (dCell c k n) 0 ∅ 0 ∗ reached ER (dCell c k n) 0)
def pos (c : Dev nD) : sProp 𝕄 := bigSep Finset.univ (fun kn : Fin 4 × Fin 7 => posn (F := F) c kn.1.val kn.2.val)
def bars : sProp 𝕄 := bigSep Finset.univ (fun c : Dev nD => reached ER (barCell c) 0)
instance bars_persistent : BI.Persistent (bars (F := F)) := by unfold bars; infer_instance
theorem bars_at (c : Dev nD) : (bars (F := F) : sProp 𝕄) ⊢ reached ER (barCell c) 0 := by
  unfold bars; exact bigSep_elim (Φ := fun c : Dev nD => (reached ER (barCell c) 0 : sProp 𝕄)) (Finset.mem_univ c)

theorem give_lo (c : Dev nD) (n : ℕ) (h : n < 2 := by decide) :
    iprop(reached ER (dCell c 1 n) 0 ∗ anyAt (F := F) c (slotOf n)) ⊢ (barPay (F := F) (ptn c n) n : sProp 𝕄) := by
  rw [bar_lo (ptn c n) n h]; unfold goPay; rw [ptn_ptn c (by omega)]
theorem give_hi (c : Dev nD) (n : ℕ) (h : ¬ n < 2 := by decide) (hn : n < 7 := by decide) :
    iprop(reached ER (dCell c 1 n) 0 ∗ reached ER (dCell c 3 n) 0 ∗ anyAt (F := F) c (rowOf n)) ⊢ (barPay (F := F) (ptn c n) n : sProp 𝕄) := by
  rw [bar_hi (ptn c n) n h]; unfold tkPay; rw [ptn_ptn c hn]

theorem toks_seven (c : Dev nD) : (toks (F := F) c : sProp 𝕄) ⊢ iprop(tokn (F := F) c 0 ∗ tokn (F := F) c 1 ∗ tokn (F := F) c 2 ∗ tokn (F := F) c 3 ∗ tokn (F := F) c 4 ∗ tokn (F := F) c 5 ∗ tokn (F := F) c 6) :=
  Entails.of_eq (bigSep_seven _)
theorem pos_all (c : Dev nD) : (pos (F := F) c : sProp 𝕄) ⊢ iprop((posn (F := F) c 0 0 ∗ posn (F := F) c 0 1 ∗ posn (F := F) c 0 2 ∗ posn (F := F) c 0 3 ∗ posn (F := F) c 0 4 ∗ posn (F := F) c 0 5 ∗ posn (F := F) c 0 6) ∗ (posn (F := F) c 1 0 ∗ posn (F := F) c 1 1 ∗ posn (F := F) c 1 2 ∗ posn (F := F) c 1 3 ∗ posn (F := F) c 1 4 ∗ posn (F := F) c 1 5 ∗ posn (F := F) c 1 6) ∗ (posn (F := F) c 2 0 ∗ posn (F := F) c 2 1 ∗ posn (F := F) c 2 2 ∗ posn (F := F) c 2 3 ∗ posn (F := F) c 2 4 ∗ posn (F := F) c 2 5 ∗ posn (F := F) c 2 6) ∗ (posn (F := F) c 3 0 ∗ posn (F := F) c 3 1 ∗ posn (F := F) c 3 2 ∗ posn (F := F) c 3 3 ∗ posn (F := F) c 3 4 ∗ posn (F := F) c 3 5 ∗ posn (F := F) c 3 6)) := by
  unfold pos
  rw [bigSep_univ_prod, bigSep_four, bigSep_seven, bigSep_seven, bigSep_seven, bigSep_seven]
  exact .rfl
theorem sems_join (c : Dev nD) : iprop((semVal (dCell c 0 0) 0 ∗ semVal (dCell c 0 1) 0 ∗ semVal (dCell c 0 2) 0 ∗ semVal (dCell c 0 3) 0 ∗ semVal (dCell c 0 4) 0 ∗ semVal (dCell c 0 5) 0 ∗ semVal (dCell c 0 6) 0) ∗ (semVal (dCell c 1 0) 0 ∗ semVal (dCell c 1 1) 0 ∗ semVal (dCell c 1 2) 0 ∗ semVal (dCell c 1 3) 0 ∗ semVal (dCell c 1 4) 0 ∗ semVal (dCell c 1 5) 0 ∗ semVal (dCell c 1 6) 0) ∗ (semVal (dCell c 2 0) 0 ∗ semVal (dCell c 2 1) 0 ∗ semVal (dCell c 2 2) 0 ∗ semVal (dCell c 2 3) 0 ∗ semVal (dCell c 2 4) 0 ∗ semVal (dCell c 2 5) 0 ∗ semVal (dCell c 2 6) 0) ∗ (semVal (dCell c 3 0) 0 ∗ semVal (dCell c 3 1) 0 ∗ semVal (dCell c 3 2) 0 ∗ semVal (dCell c 3 3) 0 ∗ semVal (dCell c 3 4) 0 ∗ semVal (dCell c 3 5) 0 ∗ semVal (dCell c 3 6) 0))
    ⊢ (Pipeline.ownSems0 (τ := τ) osem c : sProp 𝕄) := by
  unfold Pipeline.ownSems0
  rw [bigSep_univ_prod, bigSep_four, bigSep_seven, bigSep_seven, bigSep_seven, bigSep_seven]
  exact .rfl

theorem shut (c : Dev nD) (k n : ℕ) (hk : k < 4 := by decide) (h2 : 2 ≤ k := by decide) (hn : n < 2 := by decide) :
    iprop(ctx xs ws K ∗ atPos ER (dCell c k n) 0 ∅ 0) ⊢ (|={Set.univ}=> semVal (dCell c k n) 0 : sProp 𝕄) := by
  iintro ⟨#Hc, H⟩
  iapply (Rounds.cell_close ER (Rd xs ws) (Set.mem_univ (K (c, cIdx k n))) id (R := 0) (fun r _ => duties_none xs ws c hk h2 hn r))
  isplitr
  · iapply (ctx_d xs ws K c hk (by omega)); iexact Hc
  iexact H

/-- What the body does not use. -/
def left (c : Dev nD) : sProp 𝕄 :=
  iprop(semVal (dCell c 2 0) 0 ∗ semVal (dCell c 2 1) 0 ∗ semVal (dCell c 3 0) 0 ∗ semVal (dCell c 3 1) 0
    ∗ anyAt (F := F) c (rowOf 0) ∗ anyAt (F := F) c (rowOf 1) ∗ slotRest (F := F) c ∗ rowRest (F := F) c)
/-- What it does, of the protocol. -/
def used (c : Dev nD) : sProp 𝕄 :=
  iprop(cred (tallyAt (barCell c) () 7) ∗ atPos ER (barCell c) 0 ∅ 0 ∗ sigRes (F := F) c 0 ∗ sigRes (F := F) c 1 ∗ sigRes (F := F) c 2 ∗ sigRes (F := F) c 3 ∗ sigRes (F := F) c 4 ∗ sigRes (F := F) c 5 ∗ sigRes (F := F) c 6 ∗ stA (F := F) c 0 ∗ stA (F := F) c 1 ∗ stA (F := F) c 2 ∗ stA (F := F) c 3 ∗ stA (F := F) c 4 ∗ stA (F := F) c 5 ∗ stA (F := F) c 6 ∗ tkA (F := F) c 2 ∗ tkA (F := F) c 3 ∗ tkA (F := F) c 4 ∗ tkA (F := F) c 5 ∗ tkA (F := F) c 6)

theorem enter (c : Dev nD) :
    iprop(ctx xs ws K ∗ bars (F := F) ∗ atPos ER (barCell c) 0 ∅ 0 ∗ pos (F := F) c ∗ toks (F := F) c ∗ creds (F := F) c
        ∗ (∃ f, hold (F := F) c cc0_scratch1 f) ∗ (∃ f, hold (F := F) c cc0_scratch3 f))
      ⊢ (|={Set.univ}=> iprop(used (F := F) c ∗ left (F := F) c) : sProp 𝕄) := by
  iintro ⟨#Hc, #Hb, AB, HP, HT, HC, HS, HR⟩
  ihave HS := (slots_cut c) $$ HS; icases HS with ⟨⟨U0, U1⟩, SR⟩
  ihave HR := (rows_cut c) $$ HR; icases HR with ⟨⟨W0, W1, W2, W3, W4, W5, W6⟩, RR⟩
  ihave HP := (pos_all c) $$ HP
  icases HP with ⟨⟨P00, P01, P02, P03, P04, P05, P06⟩, ⟨P10, P11, P12, P13, P14, P15, P16⟩, ⟨P20, P21, P22, P23, P24, P25, P26⟩, ⟨P30, P31, P32, P33, P34, P35, P36⟩⟩
  ihave HT := (toks_seven c) $$ HT
  icases HT with ⟨T0, T1, T2, T3, T4, T5, T6⟩
  unfold creds
  icases HC with ⟨CB, C10, C11, C12, C13, C14, C15, C16, C32, C33, C34, C35, C36⟩
  unfold tokn posn
  icases T0 with ⟨TB0, T00, T10, T20, T30⟩
  icases T1 with ⟨TB1, T01, T11, T21, T31⟩
  icases T2 with ⟨TB2, T02, T12, T22, T32⟩
  icases T3 with ⟨TB3, T03, T13, T23, T33⟩
  icases T4 with ⟨TB4, T04, T14, T24, T34⟩
  icases T5 with ⟨TB5, T05, T15, T25, T35⟩
  icases T6 with ⟨TB6, T06, T16, T26, T36⟩
  icases P00 with ⟨A00, #R00⟩
  icases P01 with ⟨A01, #R01⟩
  icases P02 with ⟨A02, #R02⟩
  icases P03 with ⟨A03, #R03⟩
  icases P04 with ⟨A04, #R04⟩
  icases P05 with ⟨A05, #R05⟩
  icases P06 with ⟨A06, #R06⟩
  icases P10 with ⟨A10, #R10⟩
  icases P11 with ⟨A11, #R11⟩
  icases P12 with ⟨A12, #R12⟩
  icases P13 with ⟨A13, #R13⟩
  icases P14 with ⟨A14, #R14⟩
  icases P15 with ⟨A15, #R15⟩
  icases P16 with ⟨A16, #R16⟩
  icases P20 with ⟨A20, #R20⟩
  icases P21 with ⟨A21, #R21⟩
  icases P22 with ⟨A22, #R22⟩
  icases P23 with ⟨A23, #R23⟩
  icases P24 with ⟨A24, #R24⟩
  icases P25 with ⟨A25, #R25⟩
  icases P26 with ⟨A26, #R26⟩
  icases P30 with ⟨A30, #R30⟩
  icases P31 with ⟨A31, #R31⟩
  icases P32 with ⟨A32, #R32⟩
  icases P33 with ⟨A33, #R33⟩
  icases P34 with ⟨A34, #R34⟩
  icases P35 with ⟨A35, #R35⟩
  icases P36 with ⟨A36, #R36⟩
  imod (shut xs ws K c 2 0) $$ [A20] with V20
  · isplitr; · iexact Hc
    iexact A20
  imod (shut xs ws K c 2 1) $$ [A21] with V21
  · isplitr; · iexact Hc
    iexact A21
  imod (shut xs ws K c 3 0) $$ [A30] with V30
  · isplitr; · iexact Hc
    iexact A30
  imod (shut xs ws K c 3 1) $$ [A31] with V31
  · isplitr; · iexact Hc
    iexact A31
  ihave G0 := (give_lo c 0) $$ [U0]
  · isplitr; · iexact R10
    iexact U0
  ihave G1 := (give_lo c 1) $$ [U1]
  · isplitr; · iexact R11
    iexact U1
  ihave G2 := (give_hi c 2) $$ [W2]
  · isplitr; · iexact R12
    isplitr; · iexact R32
    iexact W2
  ihave G3 := (give_hi c 3) $$ [W3]
  · isplitr; · iexact R13
    isplitr; · iexact R33
    iexact W3
  ihave G4 := (give_hi c 4) $$ [W4]
  · isplitr; · iexact R14
    isplitr; · iexact R34
    iexact W4
  ihave G5 := (give_hi c 5) $$ [W5]
  · isplitr; · iexact R15
    isplitr; · iexact R35
    iexact W5
  ihave G6 := (give_hi c 6) $$ [W6]
  · isplitr; · iexact R16
    isplitr; · iexact R36
    iexact W6
  imodintro
  unfold used left sigRes stA tkA
  isplitr [V20 V21 V30 V31 W0 W1 SR RR]
  · isplitl [CB]; · iexact CB
    isplitl [AB]; · iexact AB
    isplitl [TB0 G0]
    · isplitl [TB0]; · iexact TB0
      isplitr; · iapply (bars_at (ptn c 0)); iexact Hb
      iexact G0
    isplitl [TB1 G1]
    · isplitl [TB1]; · iexact TB1
      isplitr; · iapply (bars_at (ptn c 1)); iexact Hb
      iexact G1
    isplitl [TB2 G2]
    · isplitl [TB2]; · iexact TB2
      isplitr; · iapply (bars_at (ptn c 2)); iexact Hb
      iexact G2
    isplitl [TB3 G3]
    · isplitl [TB3]; · iexact TB3
      isplitr; · iapply (bars_at (ptn c 3)); iexact Hb
      iexact G3
    isplitl [TB4 G4]
    · isplitl [TB4]; · iexact TB4
      isplitr; · iapply (bars_at (ptn c 4)); iexact Hb
      iexact G4
    isplitl [TB5 G5]
    · isplitl [TB5]; · iexact TB5
      isplitr; · iapply (bars_at (ptn c 5)); iexact Hb
      iexact G5
    isplitl [TB6 G6]
    · isplitl [TB6]; · iexact TB6
      isplitr; · iapply (bars_at (ptn c 6)); iexact Hb
      iexact G6
    isplitl [T00 T10 A00 A10 C10]
    · isplitl [T00]; · iexact T00
      isplitr; · iexact R00
      isplitl [T10]; · iexact T10
      isplitl [A00]; · iexact A00
      isplitl [A10]; · iexact A10
      iexact C10
    isplitl [T01 T11 A01 A11 C11]
    · isplitl [T01]; · iexact T01
      isplitr; · iexact R01
      isplitl [T11]; · iexact T11
      isplitl [A01]; · iexact A01
      isplitl [A11]; · iexact A11
      iexact C11
    isplitl [T02 T12 A02 A12 C12]
    · isplitl [T02]; · iexact T02
      isplitr; · iexact R02
      isplitl [T12]; · iexact T12
      isplitl [A02]; · iexact A02
      isplitl [A12]; · iexact A12
      iexact C12
    isplitl [T03 T13 A03 A13 C13]
    · isplitl [T03]; · iexact T03
      isplitr; · iexact R03
      isplitl [T13]; · iexact T13
      isplitl [A03]; · iexact A03
      isplitl [A13]; · iexact A13
      iexact C13
    isplitl [T04 T14 A04 A14 C14]
    · isplitl [T04]; · iexact T04
      isplitr; · iexact R04
      isplitl [T14]; · iexact T14
      isplitl [A04]; · iexact A04
      isplitl [A14]; · iexact A14
      iexact C14
    isplitl [T05 T15 A05 A15 C15]
    · isplitl [T05]; · iexact T05
      isplitr; · iexact R05
      isplitl [T15]; · iexact T15
      isplitl [A05]; · iexact A05
      isplitl [A15]; · iexact A15
      iexact C15
    isplitl [T06 T16 A06 A16 C16]
    · isplitl [T06]; · iexact T06
      isplitr; · iexact R06
      isplitl [T16]; · iexact T16
      isplitl [A06]; · iexact A06
      isplitl [A16]; · iexact A16
      iexact C16
    isplitl [T22 T32 A22 A32 C32]
    · isplitl [T22]; · iexact T22
      isplitr; · iexact R22
      isplitl [T32]; · iexact T32
      isplitl [A22]; · iexact A22
      isplitl [A32]; · iexact A32
      iexact C32
    isplitl [T23 T33 A23 A33 C33]
    · isplitl [T23]; · iexact T23
      isplitr; · iexact R23
      isplitl [T33]; · iexact T33
      isplitl [A23]; · iexact A23
      isplitl [A33]; · iexact A33
      iexact C33
    isplitl [T24 T34 A24 A34 C34]
    · isplitl [T24]; · iexact T24
      isplitr; · iexact R24
      isplitl [T34]; · iexact T34
      isplitl [A24]; · iexact A24
      isplitl [A34]; · iexact A34
      iexact C34
    isplitl [T25 T35 A25 A35 C35]
    · isplitl [T25]; · iexact T25
      isplitr; · iexact R25
      isplitl [T35]; · iexact T35
      isplitl [A25]; · iexact A25
      isplitl [A35]; · iexact A35
      iexact C35
    isplitl [T26]; · iexact T26
    isplitr; · iexact R26
    isplitl [T36]; · iexact T36
    isplitl [A26]; · iexact A26
    isplitl [A36]; · iexact A36
    iexact C36
  · isplitl [V20]; · iexact V20
    isplitl [V21]; · iexact V21
    isplitl [V30]; · iexact V30
    isplitl [V31]; · iexact V31
    isplitl [W0]; · iexact W0
    isplitl [W1]; · iexact W1
    isplitl [SR]; · iexact SR
    iexact RR

/-- What comes back of the protocol. -/
def back (c : Dev nD) : sProp 𝕄 :=
  iprop(stD (F := F) c 0 ∗ stD (F := F) c 1 ∗ stD (F := F) c 2 ∗ stD (F := F) c 3 ∗ stD (F := F) c 4 ∗ stD (F := F) c 5 ∗ stD (F := F) c 6 ∗ tkD (F := F) c 2 ∗ tkD (F := F) c 3 ∗ tkD (F := F) c 4 ∗ tkD (F := F) c 5 ∗ tkD (F := F) c 6 ∗ anyAt (F := F) c (rowOf 2) ∗ anyAt (F := F) c (rowOf 3) ∗ anyAt (F := F) c (rowOf 4) ∗ anyAt (F := F) c (rowOf 5) ∗ anyAt (F := F) c (rowOf 6) ∗ recvPay xs ws c 5 ∗ recvPay xs ws c 6)

theorem leave (c : Dev nD) :
    iprop(back xs ws c ∗ left (F := F) c)
      ⊢ (iprop(Pipeline.ownSems0 (τ := τ) osem c ∗ (∃ f, hold (F := F) c cc0_scratch1 f) ∗ (∃ f, hold (F := F) c cc0_scratch3 f)) : sProp 𝕄) := by
  unfold back left stD tkD
  iintro ⟨⟨⟨D00, D10⟩, ⟨D01, D11⟩, ⟨D02, D12⟩, ⟨D03, D13⟩, ⟨D04, D14⟩, ⟨D05, D15⟩, ⟨D06, D16⟩, ⟨D22, D32⟩, ⟨D23, D33⟩, ⟨D24, D34⟩, ⟨D25, D35⟩, ⟨D26, D36⟩, W2, W3, W4, W5, W6, Y5, Y6⟩, D20, D21, D30, D31, W0, W1, SR, RR⟩
  ihave Y5 := (recv_any xs ws c 5) $$ Y5
  ihave Y6 := (recv_any xs ws c 6) $$ Y6
  ihave U1 := (Entails.of_eq ((slot_back (F := F) c 1).trans (slot_back (F := F) c 3)).symm) $$ Y5
  ihave U0 := (Entails.of_eq (((slot_back (F := F) c 0).trans (slot_back (F := F) c 2)).trans (slot_back (F := F) c 4)).symm) $$ Y6
  isplitl [D00 D01 D02 D03 D04 D05 D06 D10 D11 D12 D13 D14 D15 D16 D20 D21 D22 D23 D24 D25 D26 D30 D31 D32 D33 D34 D35 D36]
  · iapply (sems_join c)
    isplitl [D00 D01 D02 D03 D04 D05 D06]
    · isplitl [D00]; · iexact D00
      isplitl [D01]; · iexact D01
      isplitl [D02]; · iexact D02
      isplitl [D03]; · iexact D03
      isplitl [D04]; · iexact D04
      isplitl [D05]; · iexact D05
      iexact D06
    isplitl [D10 D11 D12 D13 D14 D15 D16]
    · isplitl [D10]; · iexact D10
      isplitl [D11]; · iexact D11
      isplitl [D12]; · iexact D12
      isplitl [D13]; · iexact D13
      isplitl [D14]; · iexact D14
      isplitl [D15]; · iexact D15
      iexact D16
    isplitl [D20 D21 D22 D23 D24 D25 D26]
    · isplitl [D20]; · iexact D20
      isplitl [D21]; · iexact D21
      isplitl [D22]; · iexact D22
      isplitl [D23]; · iexact D23
      isplitl [D24]; · iexact D24
      isplitl [D25]; · iexact D25
      iexact D26
    isplitl [D30]; · iexact D30
    isplitl [D31]; · iexact D31
    isplitl [D32]; · iexact D32
    isplitl [D33]; · iexact D33
    isplitl [D34]; · iexact D34
    isplitl [D35]; · iexact D35
    iexact D36
  isplitl [U0 U1 SR]
  · iapply (slots_join c)
    isplitr [SR]
    · isplitl [U0] <;> iassumption
    iexact SR
  · iapply (rows_join c)
    isplitr [RR]
    · isplitl [W0]; · iexact W0
      isplitl [W1]; · iexact W1
      isplitl [W2]; · iexact W2
      isplitl [W3]; · iexact W3
      isplitl [W4]; · iexact W4
      isplitl [W5]; · iexact W5
      iexact W6
    iexact RR

end Cert.Run
-- ==== Proof.Host.lean ====
/-
  What the host leaves in the two operands it makes: the rows of the two tables that belong to the device.
-/
module

public import proofs.«01_k».proof.Proof.Tables
public import proofs.«01_k».proof.Proof.Gen.KernelIdeal.Regions
public import Idealize.ShloMosaic.Lib.StableHlo.Run
public import Idealize.ShloMosaic.Lib.ValueIdxCore

@[expose] public section

noncomputable section

namespace Cert.Run

open Cert.KernelIdeal Cert.KernelIdeal.Gen
open Idealize.ShloMosaic Idealize.ShloMosaic.TcCoe

variable {F : FTy → Type} [FloatOps F] (m : (ℓ : Loc nD τ sig) → Buf (Elt F) ℓ)

/-- The word of the row that device `c` takes; -/
def rowWord (c : Dev nD) : IVec S_ 32 := Host.remui (Host.divui (constantI S_ 32 (Dev.word c)) (constantI S_ 32 1#32)) (constantI S_ 32 32#32)
/-- the same with a negative one counted from the end; -/
def rowIdx (c : Dev nD) : IVec S1 32 :=
  broadcastInDim S1 ![] bcast_S_S1 (select (cmpi .slt (rowWord c) (constantI S_ 32 0#32)) (addi (rowWord c) (constantI S_ 32 32#32)) (rowWord c))
/-- that row of a table. -/
def takeRow (T : IVec S32x7 32) (c : Dev nD) : IVec S7 32 :=
  select (broadcastInDim S7 ![] bcast_S_S7 (Host.reduce IntOp.andi (andi (cmpi .sge (rowIdx c) (broadcastInDim S1 ![] bcast_S_S1 (constantI S_ 32 0#32)))
      (cmpi .sle (rowIdx c) (constantI S1 32 31#32))) (constantI S_ 1 1#1) reducesTo_S1_S_d0 h_S_))
    (Host.gather gather_S32x7_S1_S7_0_0_n_n_0_0_17 T (rowIdx c)) (broadcastInDim S7 ![] bcast_S_S7 (constantI S_ 32 2147483648#32))

def at7 (j : Fin 7) : S7.Idx := fun a => ⟨j.val, by fin_cases a; exact j.isLt⟩
theorem at7_eq (i : S7.Idx) : i = at7 (i 0) := by funext a; fin_cases a; rfl

theorem take0 : ∀ (c : Fin 32) (j : Fin 7), takeRow (fun i => lit0 (S32x7.rowMajor i)) c (at7 j) = ptnRow c (at7 j) := by decide +kernel
theorem take1 : ∀ (c : Fin 32) (j : Fin 7), takeRow (fun i => lit1 (S32x7.rowMajor i)) c (at7 j) = opcRow c (at7 j) := by decide +kernel

theorem V2_v5 (c : Dev nD) : V2 m c main_v5 = ptnRow c := by
  show StableHlo.after hostOps0_1 (V1 m c) main_v5 = _
  after_results_simp
  show takeRow (fun i => lit0 (S32x7.rowMajor i)) c = ptnRow c
  funext i; rw [at7_eq i]; exact take0 c _
theorem V3_v6 (c : Dev nD) : V3 m c main_v6 = opcRow c := by
  show StableHlo.after hostOps0_2 (V2 m c) main_v6 = _
  after_results_simp
  show takeRow (fun i => lit1 (S32x7.rowMajor i)) c = opcRow c
  funext i; rw [at7_eq i]; exact take1 c _
theorem V3_v5 (c : Dev nD) : V3 m c main_v5 = ptnRow c := (V3_of m c main_v5 (by decide)).trans (V2_v5 m c)

end Cert.Run
-- ==== Proof.Region.lean ====
/-
  The kernel's region: the contents its windows move, its invariant before and after the one point, and the body
  obligation, from the protocol's `enter`, `wp_body` and `leave`.
-/
module

public import proofs.«01_k».proof.Proof.Enter
public import proofs.«01_k».proof.Proof.Host
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.ValueKit.Geometry

@[expose] public section

set_option maxRecDepth 20000

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- The devices' two arguments as launched. -/
def xa (c : Dev nD) : FVec F S2048x64 .bf16 := m ((c : Thread nD τ).loc main_arg0)
def wa (c : Dev nD) : FVec F S64x2048 .bf16 := m ((c : Thread nD τ).loc main_arg1)

theorem V3_arg0 (c : Dev nD) : V3 m c main_arg0 = xa m c :=
  (V3_of m c main_arg0 (by decide)).trans <| (V2_of m c main_arg0 (by decide)).trans <| (V1_of m c main_arg0 (by decide)).trans rfl
theorem V3_arg1 (c : Dev nD) : V3 m c main_arg1 = wa m c :=
  (V3_of m c main_arg1 (by decide)).trans <| (V2_of m c main_arg1 (by decide)).trans <| (V1_of m c main_arg1 (by decide)).trans rfl

/-- What the region leaves in its result. -/
def outs : Outs (F := F) := fun _ r c => Function.update (V3 m c) (Proc.devRef .tc main_v7) (outAt (xa m) (wa m) c) (Proc.devRef .tc r)
theorem outs_v7 (c : Dev nD) : outs m 4 main_v7 c = outAt (xa m) (wa m) c := Function.update_self _ _ _

/-- What a core owes when the region begins. -/
def O₀ (c : Dev nD) : CellTallies nD τ sig Unit := owed c ord

/-- What enters the region's invariant on a device, beside the scoped buffers and the register; -/
def Xk (c : Dev nD) : sProp 𝕄 :=
  iprop((∃ K, ctx (xa m) (wa m) K) ∗ bars (F := F) ∗ atPos ER (barCell c) 0 ∅ 0 ∗ pos (F := F) c ∗ toks (F := F) c ∗ creds (F := F) c)
/-- the scoped buffers no window stages and the register. -/
def restAt (c : Dev nD) : sProp 𝕄 :=
  iprop((∃ f, hold (F := F) c cc0_scratch0 f) ∗ (∃ f, hold (F := F) c cc0_scratch1 f) ∗ (∃ f, hold (F := F) c cc0_scratch2 f)
    ∗ (∃ f, hold (F := F) c cc0_scratch3 f) ∗ (∃ r, prngReg c r))

/-- The invariant before the point, and after it. -/
def invA (c : Dev nD) : sProp 𝕄 := iprop(Xk m c ∗ restAt c)
def invB (c : Dev nD) : sProp 𝕄 := iprop(semVal (barCell c) 0 ∗ Pipeline.ownSems0 (τ := τ) osem c ∗ restAt c)

/-- The region's data: nothing is owed after the point. -/
def dat0 (c : Dev nD) : Dat τ (Elt F) Unit ℕ UU ℕ cfg0 c where
  A w := V3 m c (Proc.devRef .tc (Pipeline.arrRef cfg0.spec w))
  after w _ := match w with
    | 0 => ptnRow c
    | 1 => opcRow c
    | 2 => xa m c
    | 3 => wa m c
    | 4 => outAt (xa m) (wa m) c
    | ⟨_ + 5, h⟩ => absurd h (Nat.not_lt.2 (Nat.le_add_left _ _))
  Φ t := if t.val = 0 then invA m c else invB c
  q _ := fullShare
  owed t := if t.val = 0 then O₀ c else 0

def pdats (p : Fin 1) (c : Dev nD) : Dat τ (Elt F) Unit ℕ UU ℕ (cfgs p) c := dat0 m c

theorem owed_first (c : Dev nD) : (dat0 (F := F) m c).owed t0_0.castSucc = O₀ c := by
  show (if (t0_0.castSucc : Fin (cfg0.N + 1)).val = 0 then O₀ c else 0) = O₀ c; exact if_pos rfl
theorem owed_zero (c : Dev nD) : (dat0 (F := F) m c).owed 0 = O₀ c := by
  show (if ((0 : Fin (cfg0.N + 1)).val = 0) then O₀ c else 0) = O₀ c; exact if_pos rfl
theorem owed_last (c : Dev nD) : (dat0 (F := F) m c).owed (Fin.last _) = 0 := by
  show (if (Fin.last cfg0.N).val = 0 then O₀ c else 0) = 0
  rw [Fin.val_last, if_neg (by rw [show cfg0.N = 1 from N_0]; decide)]
theorem owed_nil (c : Dev nD) : owed c [] = 0 := rfl

theorem inv_first (c : Dev nD) : (dat0 (F := F) m c).Φ t0_0.castSucc = invA m c := by
  show (if (t0_0.castSucc : Fin (cfg0.N + 1)).val = 0 then invA m c else invB c) = _; exact if_pos rfl
theorem inv_zero (c : Dev nD) : (dat0 (F := F) m c).Φ 0 = invA m c := by
  show (if ((0 : Fin (cfg0.N + 1)).val = 0) then invA m c else invB c) = _; exact if_pos rfl
theorem inv_succ (c : Dev nD) : (dat0 (F := F) m c).Φ t0_0.succ = invB c := by
  show (if (t0_0.succ : Fin (cfg0.N + 1)).val = 0 then invA m c else invB c) = _; exact if_neg (by decide)
theorem inv_last (c : Dev nD) : (dat0 (F := F) m c).Φ (Fin.last _) = invB c := by
  show (if (Fin.last cfg0.N).val = 0 then invA m c else invB c) = _
  exact if_neg (by rw [Fin.val_last, show cfg0.N = 1 from N_0]; decide)

theorem owesAt_of {cfg : Pipeline.Cfg sig Λ₀} {c : Dev nD} (dat : Dat τ (Elt F) Unit ℕ UU ℕ cfg c) (t : Fin (cfg.N + 1))
    (l : List (ℕ × ℕ)) (h0 : dat.owed t = owed c l) (hr : dat.recorded t = Set.univ) :
    (owing (F := F) c l : sProp 𝕄) ⊢ (dat.owesAt () t : sProp 𝕄) := by
  unfold Dat.owesAt Pipeline.owesWithin Dat.bound owing; rw [h0, hr]
  iintro ⟨%W, HO⟩; iexists W; isplitr; · ipureintro; exact fun _ _ => Or.inl trivial
  iexact HO
theorem of_owesAt {cfg : Pipeline.Cfg sig Λ₀} {c : Dev nD} (dat : Dat τ (Elt F) Unit ℕ UU ℕ cfg c) (t : Fin (cfg.N + 1))
    (l : List (ℕ × ℕ)) (h0 : dat.owed t = owed c l) :
    (dat.owesAt () t : sProp 𝕄) ⊢ owing (F := F) c l := by
  unfold Dat.owesAt Pipeline.owesWithin owing; rw [h0]
  iintro ⟨%W, -, HO⟩; iexists W; iexact HO

/-- What each input window hands the body: its array. -/
theorem in0 (c : Dev nD) (d) : (dat0 m c).before 0 t0_0 d = ptnRow c := by
  unfold Dat.before; rw [if_pos (fetch0_0 t0_0)]
  show (win0_0.blk t0_0).view.read (Elt F) (V3 m c main_v5) = ptnRow c
  rw [V3_v5]
  funext i; show ptnRow c ((win0_0.blk t0_0).view.emb i) = _
  congr 1; blk_ext
  · rw [show win0_0.index t0_0 0 = 0 from by decide +kernel, Nat.zero_mul, Nat.zero_add]
theorem in1 (c : Dev nD) (d) : (dat0 m c).before 1 t0_0 d = opcRow c := by
  unfold Dat.before; rw [if_pos (fetch0_1 t0_0)]
  show (win0_1.blk t0_0).view.read (Elt F) (V3 m c main_v6) = opcRow c
  rw [V3_v6]
  funext i; show opcRow c ((win0_1.blk t0_0).view.emb i) = _
  congr 1; blk_ext
  · rw [show win0_1.index t0_0 0 = 0 from by decide +kernel, Nat.zero_mul, Nat.zero_add]
theorem in2 (c : Dev nD) (d) : (dat0 m c).before 2 t0_0 d = xa m c := by
  unfold Dat.before; rw [if_pos (fetch0_2 t0_0)]
  show (win0_2.blk t0_0).view.read (Elt F) (V3 m c main_arg0) = xa m c
  rw [V3_arg0]
  funext i; show xa m c ((win0_2.blk t0_0).view.emb i) = _
  congr 1; blk_ext
  · rw [show win0_2.index t0_0 0 = 0 from by decide +kernel, Nat.zero_mul, Nat.zero_add]
  · rw [show win0_2.index t0_0 1 = 0 from by decide +kernel, Nat.zero_mul, Nat.zero_add]
theorem in3 (c : Dev nD) (d) : (dat0 m c).before 3 t0_0 d = wa m c := by
  unfold Dat.before; rw [if_pos (fetch0_3 t0_0)]
  show (win0_3.blk t0_0).view.read (Elt F) (V3 m c main_arg1) = wa m c
  rw [V3_arg1]
  funext i; show wa m c ((win0_3.blk t0_0).view.emb i) = _
  congr 1; blk_ext
  · rw [show win0_3.index t0_0 0 = 0 from by decide +kernel, Nat.zero_mul, Nat.zero_add]
  · rw [show win0_3.index t0_0 1 = 0 from by decide +kernel, Nat.zero_mul, Nat.zero_add]

set_option maxHeartbeats 1000000 in
/-- The region's body obligation. -/
theorem body0 (c : Dev nD) : BodyObligation (dat0 (F := F) m c) defs₀ 𝒱₀ () Set.univ := fun t => by
  obtain rfl := fin_N0 t
  rw [bigSep_W0, bigSep_W0]
  simp only [owns_whole_eq]
  rw [inv_first, inv_succ]
  show _ ⊢ WP c (bodyAt0 t0_0) _
  unfold invA invB Xk restAt
  iintro ⟨⟨⟨⟨%K, #Hc⟩, Hbars, Hat, Hpos, Htok, Hcr⟩, ⟨%f0, Hs0⟩, Hs1, ⟨%f2, Hs2⟩, Hs3, Hreg⟩, HO, ⟨%d0, %g0, %h0, Hw0⟩, ⟨%d1, %g1, %h1, Hw1⟩, ⟨%d2, %g2, %h2, Hw2⟩, ⟨%d3, %g3, %h3, Hw3⟩, ⟨%d4, %g4, %h4, Hw4⟩⟩
  ihave HO' := (of_owesAt (dat0 m c) _ ord (owed_first m c)) $$ HO
  imod (enter (xa m) (wa m) K c) $$ [Hbars Hat Hpos Htok Hcr Hs1 Hs3] with ⟨Hused, Hleft⟩
  · isplitr; · iexact Hc
    isplitl [Hbars]; · iexact Hbars
    isplitl [Hat]; · iexact Hat
    isplitl [Hpos]; · iexact Hpos
    isplitl [Htok]; · iexact Htok
    isplitl [Hcr]; · iexact Hcr
    isplitl [Hs1] <;> iassumption
  have e0 : g0 = ptnRow c := h0.trans (in0 m c d0)
  have e1 : g1 = opcRow c := h1.trans (in1 m c d1)
  have e2 : g2 = xa m c := h2.trans (in2 m c d2)
  have e3 : g3 = wa m c := h3.trans (in3 m c d3)
  subst e0 e1 e2 e3
  iapply (wp_body (xa m) (wa m) K c g4) $$ [Hw0 Hw1 Hw2 Hw3 Hw4 HO' Hused Hs0 Hs2]
  · isplitr; · iexact Hc
    unfold bodyPre
    isplitl [Hw0]; · iexact Hw0
    isplitl [Hw1]; · iexact Hw1
    isplitl [HO']; · iexact HO'
    isplitl [Hw2]; · iexact Hw2
    isplitl [Hw3]; · iexact Hw3
    isplitl [Hw4]; · iexact Hw4
    isplitl [Hs0]; · rw [any_sb]; iexists f0; iexact Hs0
    isplitl [Hs2]; · rw [any_ts]; iexists f2; iexact Hs2
    unfold used; iexact Hused
  unfold bodyPost
  iintro ⟨Hw0, Hw1, HO, Hw2, Hw3, Hw4, Hs0, Hs2, Hb, Hback⟩
  ihave Hl := (leave (xa m) (wa m) c) $$ [Hback Hleft]
  · isplitl [Hback]; · unfold back; iexact Hback
    iexact Hleft
  icases Hl with ⟨Hos, Hs1, Hs3⟩
  isplitl [Hb Hos Hs0 Hs1 Hs2 Hs3 Hreg]
  · isplitl [Hb]; · iexact Hb
    isplitl [Hos]; · iexact Hos
    isplitl [Hs0]; · iapply (Entails.of_eq (any_sb c)) $$ Hs0
    isplitl [Hs1]; · iexact Hs1
    isplitl [Hs2]; · iapply (Entails.of_eq (any_ts c)) $$ Hs2
    isplitl [Hs3]; · iexact Hs3
    iexact Hreg
  isplitl [HO]; · iapply (owesAt_of (dat0 m c) t0_0.succ [] (owed_last m c) rfl) $$ HO
  isplitl [Hw0]; · iexists _; isplitr; · ipureintro; rfl
                   iexact Hw0
  isplitl [Hw1]; · iexists _; isplitr; · ipureintro; rfl
                   iexact Hw1
  isplitl [Hw2]; · iexists _; isplitr; · ipureintro; rfl
                   iexact Hw2
  isplitl [Hw3]; · iexists _; isplitr; · ipureintro; rfl
                   iexact Hw3
  iexists _; isplitr; · ipureintro; rfl
  iexact Hw4

end Cert.Run
-- ==== Proof.Init.lean ====
/-
  The launch: every cell's invariant is made, the kernel's own cells closed until the region begins, and every device is
  dealt its places and the tokens of the duties it pays.
-/
module

public import proofs.«01_k».proof.Proof.Region

@[expose] public section

set_option maxRecDepth 20000

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem sep_pair {ι : Type} [Fintype ι] {Φ Ψ : ι → sProp (MT nD τ sig Unit (Elt F) ℕ UU ℕ)} :
    iprop(bigSep Finset.univ Φ ∗ bigSep Finset.univ Ψ) ⊢ bigSep Finset.univ (fun c => iprop(Φ c ∗ Ψ c)) :=
  Entails.of_eq (bigSep_sep' _ _ _).symm
theorem sep_unpair {ι : Type} [Fintype ι] {Φ Ψ : ι → sProp (MT nD τ sig Unit (Elt F) ℕ UU ℕ)} :
    bigSep Finset.univ (fun c => iprop(Φ c ∗ Ψ c)) ⊢ iprop(bigSep Finset.univ Φ ∗ bigSep Finset.univ Ψ) :=
  Entails.of_eq (bigSep_sep' _ _ _)

theorem sep_swap {α β : Type} [Fintype α] [Fintype β] (Φ : α → β → sProp (MT nD τ sig Unit (Elt F) ℕ UU ℕ)) :
    (bigSep Finset.univ fun a => bigSep Finset.univ fun b => Φ a b) = bigSep Finset.univ fun b => bigSep Finset.univ fun a => Φ a b := by
  rw [← bigSep_univ_prod (fun p : α × β => Φ p.1 p.2), bigSep_univ_equiv (Equiv.prodComm β α), bigSep_univ_prod]; rfl

/-! ## The cells and the tokens -/

theorem osem_inj : Function.Injective osem := by decide +kernel
theorem osem_ne_bar : ∀ kn : Fin 4 × Fin 7, osem kn ≠ .reg barS := by decide

def barEmb : Dev nD ↪ GSem nD τ sig := ⟨fun c => barCell c, fun _ _ h => congrArg (fun g : GSem nD τ sig => g.1.1) h⟩
def ownEmb : Dev nD × (Fin 4 × Fin 7) ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev ownCells : Finset (GSem nD τ sig) := Finset.univ.map ownEmb

/-- The duty of kind `k` at step `n`: 0 the barrier's, then the four cells'. -/
abbrev tsem (nk : Fin 7 × Fin 5) : SemLoc sig := if nk.2.val = 0 then .reg barS else .dma (semN (nk.2.val - 1) nk.1.val)
abbrev tduty (nk : Fin 7 × Fin 5) : Fin 7 := if nk.2.val = 0 then nk.1 else 0
theorem tk_inj : Function.Injective (fun nk : Fin 7 × Fin 5 => (tsem nk, tduty nk)) := by decide +kernel
def tokEmb : (Fin 7 × Dev nD) × Fin 5 ↪ GSem nD τ sig × ℕ × Fin 7 :=
  ⟨fun x => (((x.1.2 : Thread nD τ), tsem (x.1.1, x.2)), 0, tduty (x.1.1, x.2)), fun x y h => by
    have h1 : x.1.2 = y.1.2 := congrArg (fun t : GSem nD τ sig × ℕ × Fin 7 => t.1.1.1) h
    have h2 : (x.1.1, x.2) = (y.1.1, y.2) :=
      tk_inj (Prod.ext (congrArg (fun t : GSem nD τ sig × ℕ × Fin 7 => t.1.2) h) (congrArg (fun t : GSem nD τ sig × ℕ × Fin 7 => t.2.2) h))
    exact Prod.ext (Prod.ext (Prod.ext_iff.mp h2).1 h1) (Prod.ext_iff.mp h2).2⟩
def allToks : Finset (GSem nD τ sig × ℕ × Fin 7) := Finset.univ.map tokEmb

theorem disjoint_cells : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem cell_mem (p : Dev nD × Fin 29) : kcell p ∈ (barCells ∪ ownCells : Finset (GSem nD τ sig)) := by
  obtain ⟨c, i⟩ := p
  unfold kcell csem
  split
  · exact Finset.mem_union_left _ (Finset.mem_map_of_mem barEmb (Finset.mem_univ c))
  · next h =>
    have hi := i.isLt
    exact Finset.mem_union_right _ (Finset.mem_map_of_mem ownEmb
      (Finset.mem_univ (c, ((⟨(i.val - 1) / 7, by omega⟩ : Fin 4), (⟨(i.val - 1) % 7, by omega⟩ : Fin 7)))))

/-! ## What the launch makes -/

def u₀ : UU :=
  (initOf (Pipeline.cells cfgs cellOf_inj) (Pipeline.launchToks cfgs cellOf_inj), launchOf barCells ownCells allToks)

/-- A resource all of it on one device. -/
def onDev (c₀ : Dev nD) (X : sProp 𝕄) (c : Dev nD) : sProp 𝕄 := if c = c₀ then X else iprop(emp)
theorem bigSep_onDev (c₀ : Dev nD) (X : sProp (MT nD τ sig Unit (Elt F) ℕ UU ℕ)) : bigSep Finset.univ (onDev c₀ X) = X := by
  rw [bigSep_univ_at _ c₀, bigSep_congr (s := Finset.univ.erase c₀) (Ψ := fun _ => (BI.emp : sProp (MT nD τ sig Unit (Elt F) ℕ UU ℕ)))
      fun c hc => by unfold onDev; rw [if_neg (Finset.ne_of_mem_erase hc)]; rfl, BI.bigSep_emp_const]
  unfold onDev; rw [if_pos rfl]
  exact BI.equiv_iff.mp sep_emp

def G : Dev nD → sProp 𝕄 := onDev 0 (BI.own (ER (launchOf barCells ownCells allToks)))

/-- What every device may look up. -/
def records (κ : GSem nD τ sig → ℕ) : sProp 𝕄 :=
  iprop((bigSep (barCells ∪ ownCells) fun g => cellInv ER (Rd (xa m) (wa m)) (κ g) g) ∗ bigSep barCells fun g => reached ER g 0)
instance records_persistent (κ : GSem nD τ sig → ℕ) : BI.Persistent (records m κ) := by unfold records; infer_instance

theorem records_invs (κ : GSem nD τ sig → ℕ) : records m κ ⊢ invs (xa m) (wa m) (fun p => κ (kcell p)) := by
  refine bigSep_intro_persistent fun p _ => ?_
  unfold records
  exact sep_elim_left.trans (bigSep_elim (Φ := fun g => (cellInv ER (Rd (xa m) (wa m)) (κ g) g : sProp 𝕄)) (cell_mem p))
theorem records_bars (κ : GSem nD τ sig → ℕ) : records m κ ⊢ bars (F := F) := by
  unfold records bars
  rw [bigSep_map]
  iintro ⟨-, H⟩; iexact H

/-- The kernel's own cells of a device, still closed. -/
def shuts (c : Dev nD) : sProp 𝕄 := bigSep Finset.univ fun kn : Fin 4 × Fin 7 => openTok ER ((c : Thread nD τ), osem kn)

/-- What a device keeps of the launch until the region begins. -/
def Tk (c : Dev nD) : sProp 𝕄 :=
  iprop((∃ K, invs (xa m) (wa m) K) ∗ bars (F := F) ∗ atPos ER (barCell c) 0 ∅ 0 ∗ shuts (F := F) c ∗ toks (F := F) c ∗ creds (F := F) c)

/-- The own cells opened. -/
theorem hopen (c : Dev nD) : iprop(Tk m c ∗ Pipeline.ownSems0 (τ := τ) osem c ∗ levAts L lv) ⊢ (|={Set.univ}=> Xk m c : sProp 𝕄) := by
  unfold Tk Xk shuts
  iintro ⟨⟨⟨%K, #HI⟩, #HB, Hat, Hsh, Htok, Hcr⟩, Hos, #Hlev⟩
  have h1 : iprop(invs (xa m) (wa m) K ∗ bigSep Finset.univ fun kn : Fin 4 × Fin 7 => iprop(openTok ER ((c : Thread nD τ), osem kn) ∗ semVal ((c : Thread nD τ), osem kn) 0))
      ⊢ (bigSep Finset.univ fun kn : Fin 4 × Fin 7 => iprop(|={Set.univ}=> posn (F := F) c kn.1.val kn.2.val) : sProp 𝕄) :=
    bigSep_with_persistent fun kn _ => by
      have hk := kn.1.isLt; have hn := kn.2.isLt
      have e : kcell (c, cIdx kn.1.val kn.2.val) = dCell c kn.1.val kn.2.val := by unfold kcell dCell; rw [csem_cIdx hk hn]
      have hi : invs (xa m) (wa m) K ⊢ (cellInv ER (Rd (xa m) (wa m)) (K (c, cIdx kn.1.val kn.2.val)) (dCell c kn.1.val kn.2.val) : sProp 𝕄) := by
        rw [← e]; unfold invs
        exact bigSep_elim (Φ := fun p => cellInv ER (Rd (xa m) (wa m)) (K p) (kcell p)) (Finset.mem_univ ((c, cIdx kn.1.val kn.2.val) : Dev nD × Fin 29))
      unfold posn
      iintro ⟨#HI, Ho, Hs⟩
      iapply (Rounds.cell_open ER (Rd (xa m) (wa m)) (g := dCell c kn.1.val kn.2.val) (Set.mem_univ (K (c, cIdx kn.1.val kn.2.val))))
      isplitr; · iapply hi; iexact HI
      isplitl [Ho]; · iexact Ho
      iexact Hs
  have h2 := h1.trans (BI.bigSep_fupd Finset.univ _)
  imod h2 $$ [Hsh Hos] with Hp
  · isplitr; · iexact HI
    iapply sep_pair
    isplitl [Hsh]; · iexact Hsh
    unfold Pipeline.ownSems0; iexact Hos
  imodintro
  isplitr
  · iexists K; unfold ctx
    isplitr; · iexact HI
    iexact Hlev
  isplitr; · iexact HB
  isplitl [Hat]; · iexact Hat
  isplitl [Hp]; · unfold pos; iexact Hp
  isplitl [Htok] <;> iassumption

/-! ## The tokens, each to the device that pays its duty -/

theorem bigSep_five (Φ : Fin 5 → sProp (MT nD τ sig Unit (Elt F) ℕ UU ℕ)) : bigSep Finset.univ Φ = iprop(Φ 0 ∗ Φ 1 ∗ Φ 2 ∗ Φ 3 ∗ Φ 4) :=
  bigSep_univ_eq_bigSepL [0, 1, 2, 3, 4] (by decide) (by decide) Φ

theorem toks_eq : bigSep allToks (fun x => (dutyTok ER x.1 x.2.1 x.2.2 : sProp (MT nD τ sig Unit (Elt F) ℕ UU ℕ)))
    = bigSep Finset.univ fun n : Fin 7 => bigSep Finset.univ fun c : Dev nD =>
        iprop(dutyTok ER (barCell c) 0 n ∗ dutyTok ER (dCell c 0 n.val) 0 (0 : Fin 7) ∗ dutyTok ER (dCell c 1 n.val) 0 (0 : Fin 7)
          ∗ dutyTok ER (dCell c 2 n.val) 0 (0 : Fin 7) ∗ dutyTok ER (dCell c 3 n.val) 0 (0 : Fin 7)) := by
  unfold allToks; rw [bigSep_map, bigSep_univ_prod, bigSep_univ_prod]
  exact bigSep_congr fun n _ => bigSep_congr fun c _ => by rw [bigSep_five]; rfl

theorem toks_swap (n : ℕ) (hn : n < 7) :
    (bigSep Finset.univ fun c : Dev nD =>
        iprop(dutyTok ER (barCell c) 0 (⟨n, hn⟩ : Fin 7) ∗ dutyTok ER (dCell c 0 n) 0 (0 : Fin 7) ∗ dutyTok ER (dCell c 1 n) 0 (0 : Fin 7)
          ∗ dutyTok ER (dCell c 2 n) 0 (0 : Fin 7) ∗ dutyTok ER (dCell c 3 n) 0 (0 : Fin 7)))
      = (bigSep Finset.univ fun c : Dev nD => tokn (F := F) c n hn) := by
  unfold tokn
  rw [bigSep_sep', bigSep_sep', bigSep_sep', bigSep_sep', bigSep_sep', bigSep_sep', bigSep_sep', bigSep_sep',
    bigSep_univ_equiv (swap n hn) (fun c : Dev nD => (dutyTok ER (barCell c) 0 (⟨n, hn⟩ : Fin 7) : sProp 𝕄)),
    bigSep_univ_equiv (swap n hn) (fun c : Dev nD => (dutyTok ER (dCell c 1 n) 0 (0 : Fin 7) : sProp 𝕄)),
    bigSep_univ_equiv (swap n hn) (fun c : Dev nD => (dutyTok ER (dCell c 3 n) 0 (0 : Fin 7) : sProp 𝕄))]
  rfl

theorem toks_deal : bigSep allToks (fun x => (dutyTok ER x.1 x.2.1 x.2.2 : sProp (MT nD τ sig Unit (Elt F) ℕ UU ℕ)))
    = bigSep Finset.univ fun c : Dev nD => toks (F := F) c := by
  rw [toks_eq]
  unfold toks
  rw [sep_swap (fun (c : Dev nD) (n : Fin 7) => tokn (F := F) c n.val n.isLt)]
  exact bigSep_congr fun n _ => toks_swap n.val n.isLt

/-! ## The launch's global step -/

theorem unscopedSems0_eq (c : Dev nD) : (unscopedSems0 c : sProp (MT nD τ sig Unit (Elt F) ℕ UU ℕ)) = semVal (barCell c) 0 := by
  unfold unscopedSems0
  rw [show (Finset.univ.filter fun sm : SemLoc sig => ¬ sm.isScoped .tc) = {SemLoc.reg barS} from by decide, BI.bigSep_singleton]

/-- What rides beside the buffers up to the region, and after it. -/
def E (J : Fin 2) (c : Dev nD) : sProp 𝕄 :=
  if J = 0 then iprop(Tk m c ∗ (∃ r, prngReg c r) ∗ owing (F := F) c ord) else iprop(semVal (barCell c) 0 ∗ owing (F := F) c [])
theorem E_zero (c : Dev nD) : E m 0 c = iprop(Tk m c ∗ (∃ r, prngReg c r) ∗ owing (F := F) c ord) := by unfold E; exact if_pos rfl
theorem E_one (c : Dev nD) : E m 1 c = iprop(semVal (barCell c) 0 ∗ owing (F := F) c []) := by unfold E; exact if_neg (by decide)

/-- What stays with a device of what the launch makes; -/
def linear (c : Dev nD) : sProp 𝕄 := iprop(atPos ER (barCell c) 0 ∅ 0 ∗ shuts (F := F) c ∗ toks (F := F) c)
/-- and of what it deals. -/
def bundle (c : Dev nD) : sProp 𝕄 := iprop(creds (F := F) c ∗ owes (c : Thread nD τ) (O₀ c) ∅ ∗ ∃ r, prngReg c r)

theorem E_intro (κ : GSem nD τ sig → ℕ) (c : Dev nD) : iprop(records m κ ∗ (linear (F := F) c ∗ bundle (F := F) c)) ⊢ E m 0 c := by
  rw [E_zero]
  unfold linear bundle Tk
  iintro ⟨#HR, ⟨Hat, Hsh, Htok⟩, Hcr, HO, Hp⟩
  isplitl [Hat Hsh Htok Hcr]
  · isplitr; · iexists _; iapply (records_invs m κ); iexact HR
    isplitr; · iapply (records_bars m κ); iexact HR
    isplitl [Hat]; · iexact Hat
    isplitl [Hsh]; · iexact Hsh
    isplitl [Htok] <;> iassumption
  isplitl [Hp]; · iexact Hp
  unfold owing
  iexists ∅; iexact HO

theorem hE0 :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E m 0) : sProp 𝕄) := by
  have hcore (c : Dev nD) : iprop(unscopedSems0 c ∗ owes (c : Thread nD τ) (O₀ c) ∅ ∗ Pipeline.launchCred O₀ c ∗ prngReg c (ρ c) ∗ G (F := F) c)
      ⊢ (iprop(bundle (F := F) c ∗ (semVal (barCell c) 0 ∗ G (F := F) c)) : sProp 𝕄) := by
    rw [unscopedSems0_eq]
    unfold bundle
    iintro ⟨Hus, HO, Hcr, Hp, HG⟩
    ihave Hc := (show Pipeline.launchCred O₀ c ⊢ (creds (F := F) c : sProp 𝕄) from creds_intro (F := F) c) $$ Hcr
    isplitl [Hc HO Hp]
    · isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hsh : bigSep ownCells (fun g => (openTok ER g : sProp 𝕄)) ⊢ bigSep Finset.univ (fun c : Dev nD => shuts (F := F) c) :=
    Entails.of_eq (by rw [bigSep_map, bigSep_univ_prod]; rfl)
  iintro ⟨H, -⟩
  ihave H' := (show (bigSep Finset.univ fun c : Dev nD => iprop(unscopedSems0 c ∗ owes (c : Thread nD τ) (O₀ c) ∅ ∗ Pipeline.launchCred O₀ c ∗ prngReg c (ρ c) ∗ G (F := F) c))
      ⊢ (bigSep Finset.univ fun c : Dev nD => iprop(bundle (F := F) c ∗ (semVal (barCell c) 0 ∗ G (F := F) c)) : sProp 𝕄) from bigSep_mono fun c _ => hcore c) $$ H
  ihave H2 := sep_unpair $$ H'; icases H2 with ⟨HB, H3⟩
  ihave H4 := sep_unpair $$ H3; icases H4 with ⟨Hv, HG⟩
  ihave Hu := (show bigSep Finset.univ (G (F := F)) ⊢ BI.own (ER (launchOf barCells ownCells allToks)) from
    Entails.of_eq (bigSep_onDev (F := F) 0 (BI.own (ER (launchOf barCells ownCells allToks))))) $$ HG
  imod (Rounds.fund_launch ER (Rd (xa m) (wa m)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear (F := F) c ∗ bundle (F := F) c)) fun c _ => E_intro m κ c)
  isplitr
  · unfold records
    isplitr; · iexact Hinv
    iexact Hr
  iapply sep_pair
  isplitr [HB]
  · unfold linear
    iapply sep_pair; isplitl [Hat]; · iapply hat $$ Hat
    iapply sep_pair; isplitl [Hopen]; · iapply hsh $$ Hopen
    iapply (Entails.of_eq (toks_deal (F := F))) $$ Htok
  · iexact HB

end Cert.Run
-- ==== Proof.Launch.lean ====
/-
  The region's record and the run: from any memory with zero counters the program ends, its arguments unchanged, every
  counter at zero, and each device's result the value `outAt` of the protocol.
-/
module

public import proofs.«01_k».proof.Proof.Init

@[expose] public section

set_option maxRecDepth 20000

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The region's record -/

theorem held_none (c : Dev nD) (W : Valuation τ sig (Elt F)) :
    (StableHlo.held (c.tc : Thread nD τ) ∅ W : sProp (MT nD τ sig Unit (Elt F) ℕ UU ℕ)) = BI.emp := by
  unfold StableHlo.held; exact BI.bigSep_empty

theorem hin (c : Dev nD) : iprop(Pipeline.scopedRest (Pipeline.pin (pcfgs (F := F)) adm 0).spec c ∗ (∃ r, prngReg c r) ∗ StableHlo.held (c.tc : Thread nD τ) ∅ (V3 m c) ∗ Xk m c)
    ⊢ (pdats m 0 c).Φ 0 := by
  show iprop(Pipeline.scopedRest spec0 c ∗ _) ⊢ (dat0 m c).Φ 0
  rw [inv_zero, scopedRest0_eq]
  unfold invA restAt
  iintro ⟨⟨H0, H1, H2, H3⟩, Hp, -, HX⟩
  isplitl [HX]; · iexact HX
  isplitl [H0]; · iexact H0
  isplitl [H1]; · iexact H1
  isplitl [H2]; · iexact H2
  isplitl [H3]; · iexact H3
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V4 m (outs m) c) ∗ Pipeline.ownSems0 (τ := τ) osem c ∗ semVal (barCell c) 0) := by
  show (dat0 m c).Φ (Fin.last _) ⊢ iprop(Pipeline.scopedRest spec0 c ∗ _)
  rw [inv_last, scopedRest0_eq, held_none]
  unfold invB restAt
  iintro ⟨Hb, Hos, H0, H1, H2, H3, Hp⟩
  isplitl [H0 H1 H2 H3]
  · isplitl [H0]; · iexact H0
    isplitl [H1]; · iexact H1
    isplitl [H2] <;> iassumption
  isplitl [Hp]; · iexact Hp
  isplitr; · iempintro
  isplitl [Hos] <;> iassumption

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem ord_ok : ∀ x ∈ ord, x.2 < 7 ∧ 0 < dueLv x := by decide

theorem cutD (c : Dev nD) (t : Fin (cfg0.N + 1)) (g : GSem nD τ sig) (i : Unit) (h : 0 < (dat0 (F := F) m c).owed t g i) :
    i ∈ L g ∧ (0 : ℕ) < lv g i := by
  have e : (dat0 (F := F) m c).owed t = if t.val = 0 then O₀ c else 0 := rfl
  rw [e] at h
  split at h
  · obtain ⟨x, hx, rfl⟩ := owed_pos h
    obtain ⟨h7, h0⟩ := ord_ok x hx
    exact ⟨by rw [L_due]; exact Finset.mem_singleton_self _, by rw [lv_due c x h7]; exact h0⟩
  · exact absurd h (Nat.lt_irrefl 0)

theorem stage_lv : ∀ (w : Fin 5) (s : Fin (win0 w).nbuf), lvq ((win0 w).sem s).val ≤ 0 := by decide

theorem hrest (c : Dev nD) : ∀ b ∈ (Pipeline.ucRefs τ sig \ Pipeline.arrRefs (τ := τ) spec0) \ ∅, V4 m (outs m) c b = V3 m c b := fun b hb => by
  rw [Finset.sdiff_empty] at hb
  unfold V4
  refine Function.update_of_ne (fun h => (Finset.mem_sdiff.mp hb).2 ?_) _ _
  subst h
  decide

theorem hW (c : Dev nD) (w : Fin 5) : (dat0 m c).arrAt w 0 = V3 m c (Proc.devRef .tc (Pipeline.arrRef spec0 w)) := rfl

theorem hW' (c : Dev nD) (w : Fin 5) : (dat0 m c).arrAt w cfg0.N = V4 m (outs m) c (Proc.devRef .tc (Pipeline.arrRef spec0 w)) := by
  fin_cases w
  · exact ((dat0 m c).arrAt_in 0 rfl _).trans (V4_of m (outs m) c main_v5 (by decide)).symm
  · exact ((dat0 m c).arrAt_in 1 rfl _).trans (V4_of m (outs m) c main_v6 (by decide)).symm
  · exact ((dat0 m c).arrAt_in 2 rfl _).trans (V4_of m (outs m) c main_arg0 (by decide)).symm
  · exact ((dat0 m c).arrAt_in 3 rfl _).trans (V4_of m (outs m) c main_arg1 (by decide)).symm
  · refine ((dat0 m c).arrAt_eq_of_after_last 4 t0_0 (by decide +kernel) (outAt (xa m) (wa m) c) (fun j => rfl)).trans ?_
    show _ = Function.update (V3 m c) (Proc.devRef .tc main_v7) (outs m 4 main_v7 c) (Proc.devRef .tc main_v7)
    rw [Function.update_self, outs_v7]

set_option backward.isDefEq.respectTransparency.types false in
def R0 : Pipeline.RegionSeg (pcfgs (F := F)) adm (pdats m) () defs₀ 𝒱₀ L lv 0 :=
  Pipeline.RegionSeg.ofTalk (pcfgs (F := F)) adm (pdats m) () defs₀ 𝒱₀ L lv 0 osem (by decide +kernel : Pipeline.OwnSemFacts spec0 osem)
    ∅ (Pipeline.ucRefs τ sig \ Pipeline.arrRefs (τ := τ) spec0) (Finset.empty_subset _) kitP rfl (fun c => (body0 m c).loose)
    (fun _ => 0) O₀ (fun c => (owed_zero m c).trans (zero_add _).symm) (owed_last m) (fun _ => rfl)
    (fun c w => by unfold Dat.share; split <;> rfl)
    (V3 m) (V4 m (outs m)) (hrest m)
    (Tk m) (fun c => semVal (barCell c) 0) (Xk m) (fun c => semVal (barCell c) 0) (hopen m) (hin m) (hout m)
    (fun c => by iintro H; imodintro; iexact H)
    (fun _ => 0)
    ⟨fun c w s => by rw [L_tc]; exact Finset.mem_singleton_self _, fun c w s => stage_lv w s, fun c t g i h => cutD m c t g i h⟩
    (fun _ => iprop(emp)) (hW m) (hW' m)

theorem arr_sub : Pipeline.arrRefs (τ := τ) spec0 ⊆ Pipeline.ucRefs τ sig := by decide

theorem hpre (c : Dev nD) : iprop(StableHlo.held (c : Thread nD τ) (Pipeline.ucRefs τ sig) (V3 m c) ∗ E m 0 c) ⊢ (R0 m).pre c := by
  show _ ⊢ iprop(StableHlo.held (c.tc : Thread nD τ) (Pipeline.arrRefs (τ := τ) spec0) (V3 m c) ∗ (∃ r, prngReg c r)
    ∗ (StableHlo.held (c.tc : Thread nD τ) (Pipeline.ucRefs τ sig \ Pipeline.arrRefs (τ := τ) spec0) (V3 m c) ∗ emp) ∗ Tk m c ∗ ∃ Wd, owes (c : Thread nD τ) (0 + O₀ c) Wd)
  rw [E_zero, StableHlo.held_sub_split (c.tc : Thread nD τ) arr_sub (V3 m c), zero_add]
  unfold owing O₀
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem hpost (c : Dev nD) : (R0 m).post c ⊢ iprop(StableHlo.held (c : Thread nD τ) (Pipeline.ucRefs τ sig) (V4 m (outs m) c) ∗ E m 1 c) := by
  show iprop(StableHlo.held (c.tc : Thread nD τ) (Pipeline.arrRefs (τ := τ) spec0) (V4 m (outs m) c) ∗ (∃ r, prngReg c r)
    ∗ (StableHlo.held (c.tc : Thread nD τ) (Pipeline.ucRefs τ sig \ Pipeline.arrRefs (τ := τ) spec0) (V4 m (outs m) c) ∗ emp) ∗ semVal (barCell c) 0
    ∗ ∃ Wd, owes (c : Thread nD τ) (0 : CellTallies nD τ sig Unit) Wd) ⊢ _
  rw [E_one, StableHlo.held_sub_split (c.tc : Thread nD τ) arr_sub (V4 m (outs m) c)]
  unfold owing
  rw [owed_nil]
  iintro ⟨Ha, -, ⟨Hr, -⟩, Hb, HO⟩
  isplitl [Ha Hr]
  · isplitl [Ha] <;> iassumption
  isplitl [Hb] <;> iassumption

/-! ## The run -/

theorem unscoped_eq : ∀ sm : SemLoc sig, sm.isScoped .tc = false → sm = .reg barS := by decide

set_option backward.isDefEq.respectTransparency.types false in
theorem run_main : θ_run defs (onTc (τ := τ) (main (F := F))) ⟨m, fun _ => 0, ρ⟩ (fun r =>
    (∀ c : Dev nD, r.2.mem ((c.tc : Thread nD τ).loc main_v7) = outAt (xa m) (wa m) c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine Pipeline.θ_run_regions_kit_dev_sems (pcfgs (F := F)) adm (pdats m) () cellOf_inj EP defs₀ 𝒱₀ L lv m ρ main
    (segs m 𝒱₀ L lv (E m) () (pdats m) (R0 m))
    (fun c Q => by
      rewrite [main_chain c, Pipeline.Seg.run_eq_chain,
        show (segs m 𝒱₀ L lv (E m) () (pdats m) (R0 m) c).map Pipeline.Seg.prog = [
          StableHlo.seq (hostOps0 c),
          StableHlo.seq hostOps0_1,
          StableHlo.seq hostOps0_2,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne G u₀
    (hu₀ := ?_)
    (T₀ := fun c => iprop(StableHlo.held (c : Thread nD τ) (Pipeline.ucRefs τ sig) (V0 m c) ∗ E m 0 c))
    (Tₙ := fun c => iprop(StableHlo.held (c : Thread nD τ) (Pipeline.ucRefs τ sig) (V4 m (outs m) c) ∗ semVal (barCell c) 0))
    (hch := fun c => ⟨.rfl, .rfl, .rfl, hpre m c, (hpost m c).trans ?_⟩)
    (hinit := ?_)
    (QY := fun c s => (s.mem ((c.tc : Thread nD τ).loc main_v7) = outAt (xa m) (wa m) c
      ∧ s.mem ((c.tc : Thread nD τ).loc main_arg0) = m ((c.tc : Thread nD τ).loc main_arg0)
      ∧ s.mem ((c.tc : Thread nD τ).loc main_arg1) = m ((c.tc : Thread nD τ).loc main_arg1)) ∧ s.sem (barCell c) = 0)
    (hfin := fun c s' => ?_)
    (hQ := fun s h hs => ⟨fun c => (h c).1, sem_eq_zero hs fun c sm hsm => by
      obtain rfl := unscoped_eq sm hsm
      exact (h c).2⟩)
  · unfold u₀ G
    iintro Hu
    ihave H := (ownU_pair _ _) $$ Hu
    icases H with ⟨HP, HX⟩
    imodintro
    isplitl [HP]; · iexact HP
    rw [bigSep_onDev]; iexact HX
  · rw [E_one]
    unfold owing
    rw [owed_nil]
    iintro ⟨Hh, Hb, HO⟩
    isplitr [HO]
    · isplitl [Hh] <;> iassumption
    · iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G (F := F) c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G (F := F) c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (hE0 m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      refine ⟨⟨(h (Proc.devRef .tc main_v7) (Finset.mem_filter.mpr ⟨StableHlo.devRef_mem_tcRefs main_v7, by decide⟩)).trans ?_,
        (h (Proc.devRef .tc main_arg0) (Finset.mem_filter.mpr ⟨StableHlo.devRef_mem_tcRefs main_arg0, by decide⟩)).trans (V4_main_arg0 m (outs m) c),
        (h (Proc.devRef .tc main_arg1) (Finset.mem_filter.mpr ⟨StableHlo.devRef_mem_tcRefs main_arg1, by decide⟩)).trans (V4_main_arg1 m (outs m) c)⟩, by simpa using hb⟩
      show Function.update (V3 m c) (Proc.devRef .tc main_v7) (outs m 4 main_v7 c) (Proc.devRef .tc main_v7) = _
      rw [Function.update_self, outs_v7]
    · iexact HSI

end Cert.Run
-- ==== Proof.Values.lean ====
/-
  The value over the extended reals. A device's partial sum before step `n` is a combination of the devices' block products
  in which each product enters a whole number of times (`cnt`); after the seven steps every product has entered once on every
  device, so the sum is the contraction of the whole arrays. The final operation is the reference's quotient.
-/
module

public import proofs.«01_k».proof.Proof.Proto
public import Idealize.ShloMosaic.Lib.IdealHost
public import Idealize.ShloMosaic.Lib.MatmulPlain
public import Idealize.ShloMosaic.Lib.StackMember
public import Idealize.ShloMosaic.Lib.Layout
public import Idealize.ShloMosaic.Lib.Pipeline.Value

@[expose] public section

set_option maxRecDepth 20000

noncomputable section

namespace Cert.Run

open Cert.KernelIdeal Cert.KernelIdeal.Gen
open Idealize.ShloMosaic Idealize.ShloMosaic.TcCoe Idealize.ShloMosaic.ValueIdx
open scoped BigOperators

/-! ## How often each device's product has entered a partial sum -/

/-- How often device `d`'s product is in device `c`'s partial sum before step `n`. -/
def cnt : ℕ → Dev nD → Dev nD → ℕ
  | 0, c, d => if c = d then 1 else 0
  | n + 1, c, d =>
    if opc c n = 0 then cnt n c d + cnt n (ptn c n) d
    else if opc c n = 1 then cnt n (ptn c n) d else cnt n c d

set_option backward.proofsInPublic true in
theorem cnt_seven : ∀ c d : Dev nD, cnt 7 c d = 1 := by decide +kernel

/-! ## The operations at an index -/

theorem cut_apply (v : FVec Ideal S2048x2048 .f32) (i : S2048x2048.Idx) : cut v i = v i := by
  unfold cut k0_pay5
  simp only [shapeCast_self]
  rfl

theorem comb_apply (o : ℕ) (v : FVec Ideal S2048x2048 .f32) (B : FVec Ideal S2048x2048 .bf16) (i : S2048x2048.Idx) :
    comb o v B i = if o = 0 then (v i + B i : EReal) else if o = 1 then B i else v i := by
  unfold comb
  split_ifs
  · simp only [shapeCast_self]; rfl
  · rfl
  · rfl

theorem prod_apply (x : FVec Ideal S2048x64 .bf16) (w : FVec Ideal S64x2048 .bf16) (a b : Fin 2048) :
    k0_pay4 (F := Ideal) x w (ix2 a b) = (∑ k : Fin 64, x (ix2 a k) * w (ix2 k b) : EReal) := by
  unfold k0_pay4
  simp only [shapeCast_self]
  refine (Ideal.matmul_plain_apply (M := 2048) (K := 64) (N := 2048) none x w (constant S2048x2048 .f32 0x00000000#32) a b).trans ?_
  have h0 : (constant (F := Ideal) S2048x2048 .f32 0x00000000#32) (ix2 a b) = (0 : EReal) := by
    show Ideal.ofBits .f32 0x00000000#32 = 0
    simp [Ideal.ofBits, Ideal.ieee]
  rw [h0, zero_add]

/-! ## The partial sums -/

variable (xs : Dev nD → FVec Ideal S2048x64 .bf16) (ws : Dev nD → FVec Ideal S64x2048 .bf16)

theorem val_eq (i : S2048x2048.Idx) : ∀ (n : ℕ) (c : Dev nD),
    val xs ws n c i = (∑ d : Dev nD, cnt n c d • (k0_pay4 (F := Ideal) (xs d) (ws d) i : EReal) : EReal)
  | 0, c => by
    have h : ∀ d : Dev nD, cnt 0 c d • (k0_pay4 (F := Ideal) (xs d) (ws d) i : EReal) = if c = d then (k0_pay4 (F := Ideal) (xs d) (ws d) i : EReal) else 0 := by
      intro d; unfold cnt; split_ifs
      · exact one_nsmul _
      · exact zero_nsmul _
    rw [Finset.sum_congr rfl fun d _ => h d, Finset.sum_ite_eq, if_pos (Finset.mem_univ c)]
    rfl
  | n + 1, c => by
    show comb (opc c n) (val xs ws n c) (cut (val xs ws n (ptn c n))) i = _
    rw [comb_apply, cut_apply, val_eq i n c, val_eq i n (ptn c n)]
    simp only [cnt]
    split_ifs
    · rw [← Finset.sum_add_distrib]
      exact Finset.sum_congr rfl fun d _ => (add_nsmul _ _ _).symm
    · rfl
    · rfl

theorem val_seven (c : Dev nD) (i : S2048x2048.Idx) :
    val xs ws 7 c i = (∑ d : Dev nD, (k0_pay4 (F := Ideal) (xs d) (ws d) i : EReal) : EReal) := by
  rw [val_eq]
  exact Finset.sum_congr rfl fun d _ => by rw [cnt_seven, one_nsmul]

/-! ## The contraction of the whole arrays, block by block -/

set_option backward.proofsInPublic true in
/-- Position `k` of block `d` along the contracted axis. -/
def at64 (d : Fin 32) (k : Fin 64) : Fin 2048 := ⟨d.val * 64 + k.val, by omega⟩

theorem sum_blocks (f : Fin 2048 → EReal) : (∑ d : Fin 32, ∑ k : Fin 64, f (at64 d k)) = ∑ k : Fin 2048, f k := by
  rw [← Fintype.sum_prod_type' (f := fun d k => f (at64 d k))]
  refine Fintype.sum_equiv (finProdFinEquiv (m := 32) (n := 64)) _ _ fun p => ?_
  refine congrArg f (Fin.ext ?_)
  show p.1.val * 64 + p.2.val = p.2.val + 64 * p.1.val
  omega

variable (X W : (⟨2, ![2048, 2048]⟩ : Shape).Idx → EReal)

theorem block_x (d : Fin 32) (a : Fin 2048) (k : Fin 64) :
    Layout.block ⟨2, ![2048, 64]⟩ ⟨2, ![2048, 2048]⟩ 1 32 d X (by decide) (ix2 a k) = X (ix2 a (at64 d k)) := by
  refine congrArg X (funext fun b => Fin.ext ?_)
  match b with
  | ⟨0, _⟩ => rfl
  | ⟨1, _⟩ => rfl

theorem block_w (d : Fin 32) (k : Fin 64) (b : Fin 2048) :
    Layout.block ⟨2, ![64, 2048]⟩ ⟨2, ![2048, 2048]⟩ 0 32 d W (by decide) (ix2 k b) = W (ix2 (at64 d k) b) := by
  refine congrArg W (funext fun e => Fin.ext ?_)
  match e with
  | ⟨0, _⟩ => rfl
  | ⟨1, _⟩ => rfl

theorem val_whole (hx : ∀ d, xs d = Layout.block ⟨2, ![2048, 64]⟩ ⟨2, ![2048, 2048]⟩ 1 32 d X)
    (hw : ∀ d, ws d = Layout.block ⟨2, ![64, 2048]⟩ ⟨2, ![2048, 2048]⟩ 0 32 d W) (c : Dev nD) (a b : Fin 2048) :
    val xs ws 7 c (ix2 a b) = (∑ k : Fin 2048, X (ix2 a k) * W (ix2 k b) : EReal) := by
  rw [val_seven, ← sum_blocks fun k => X (ix2 a k) * W (ix2 k b)]
  refine Finset.sum_congr rfl fun d _ => ?_
  rw [prod_apply]
  refine Finset.sum_congr rfl fun k _ => ?_
  rw [hx, hw, block_x, block_w]

/-! ## The final operation -/

theorem exp_nonneg (y : EReal) : 0 ≤ Ideal.exp y := by
  induction y using EReal.rec with
  | bot => exact le_refl _
  | coe r => exact EReal.coe_nonneg.mpr (Real.exp_pos r).le
  | top => exact le_top

theorem one_add_exp_ne (y : EReal) : 1 + Ideal.exp y ≠ 0 := by
  have h1 : (1 : EReal) ≤ 1 + Ideal.exp y := le_add_of_nonneg_right (exp_nonneg y)
  intro e; rw [e] at h1; exact absurd h1 (by simp)

/-- The quotient `y / (1 + e⁻ᶻ)` that both references end with, at `z = y`. -/
def silu (y z : EReal) : EReal := Ideal.div y (1 + Ideal.exp (-z))

theorem pay3_apply (v : FVec Ideal S2048x2048 .f32) (i : S2048x2048.Idx) : k0_pay3 (F := Ideal) v i = silu (v i) (v i) := by
  unfold k0_pay3
  simp only [shapeCast_self]
  exact Ideal.mul_one_div (one_add_exp_ne _)

theorem out_whole (hx : ∀ d, xs d = Layout.block ⟨2, ![2048, 64]⟩ ⟨2, ![2048, 2048]⟩ 1 32 d X)
    (hw : ∀ d, ws d = Layout.block ⟨2, ![64, 2048]⟩ ⟨2, ![2048, 2048]⟩ 0 32 d W) (c : Dev nD) (a b : Fin 2048) :
    outAt xs ws c (ix2 a b)
      = silu (∑ k : Fin 2048, X (ix2 a k) * W (ix2 k b) : EReal) (∑ k : Fin 2048, X (ix2 a k) * W (ix2 k b) : EReal) := by
  unfold outAt
  rw [pay3_apply, val_whole xs ws X W hx hw]

/-! ## The clip -/

theorem clip_inactive (y lo hi : EReal) (hlo : lo = -hi) (h : max y (-y) ≤ hi) : min hi (max lo y) = y := by
  have h1 : y ≤ hi := (le_max_left _ _).trans h
  have h2 : lo ≤ y := by rw [hlo]; exact EReal.neg_le.mp ((le_max_right _ _).trans h)
  rw [max_eq_right h2, min_eq_right h1]

theorem sixty : Ideal.ofBits .f32 0x42700000#32 = ((60 : ℝ) : EReal) := by
  simp [Ideal.ofBits, Ideal.ieee, -EReal.coe_mul]; norm_num

theorem neg_sixty : Ideal.ofBits .f32 0xC2700000#32 = -Ideal.ofBits .f32 0x42700000#32 := by
  rw [sixty, ← EReal.coe_neg]
  simp [Ideal.ofBits, Ideal.ieee, -EReal.coe_mul, -EReal.coe_neg]; norm_num

end Cert.Run
-- ==== Proof.lean ====
/-
  The proof of `Cert.Claim`. The kernel's run is `Cert.Run.run_main` (Proof/Launch.lean), over any float values; each of the
  two frames of the kernel is that run with the values dropped, and the two value claims are its instance over the extended
  reals, with the value read by `Cert.Run.out_whole` (Proof/Values.lean). The references' runs are the generated ones.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.SiluIdeal
public import proofs.«01_k».proof.Proof.Gen.SiluIdeal.Run
public import proofs.«01_k».proof.Proof.Gen.On_clip_inactive
public import proofs.«01_k».proof.Proof.Same
public import proofs.«01_k».proof.Proof.Launch
public import proofs.«01_k».proof.Proof.Values
public import Idealize.ShloMosaic.Lib.Quiescent

@[expose] public section

noncomputable section

namespace Cert.Proof

open Idealize.ShloMosaic Idealize.ShloMosaic.TcCoe Idealize.SL.Sem Idealize.ShloMosaic.ValueIdx Idealize.ShloMosaic.StackMember
open scoped BigOperators

/-! ## The frames -/

theorem frame_kernel : Cert.quiescent_Kernel := by
  intro m ρ _
  have h := Cert.Run.run_main (F := Bits) m ρ
  rw [← Cert.Same.defs_same, ← Cert.Same.mains_same] at h
  exact (θ_run Cert.Kernel.defs _ _).mono (fun _ h => ⟨fun c => (h.1 c).2, h.2⟩) h

theorem frame_kernelIdeal : Cert.quiescent_KernelIdeal := fun m ρ _ =>
  (θ_run Cert.KernelIdeal.defs _ _).mono (fun _ h => ⟨fun c => (h.1 c).2, h.2⟩) (Cert.Run.run_main (F := Ideal) m ρ)

theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

theorem frame_silu : Cert.quiescent_SiluIdeal := fun m ρ _ =>
  (θ_run Cert.SiluIdeal.defs _ _).mono
    (fun r h => ⟨fun c => (h c).2, sem_eq_zero_of_no_sems (by decide) r.2⟩) (Cert.SiluIdeal.Value.run (F := Ideal) m ρ)

/-! ## The references at an index -/

/-- The product of the whole arrays at an index. -/
abbrev whole (X W : (⟨2, ![2048, 2048]⟩ : Shape).Idx → EReal) (a b : Fin 2048) : EReal :=
  ∑ k : Fin 2048, X (ix2 a k) * W (ix2 k b)

/-- Every index of the result is a row and a column. -/
theorem idx_pair (i : (⟨2, ![2048, 2048]⟩ : Shape).Idx) : i = ix2 (i 0) (i 1) := by
  funext a
  match a with
  | ⟨0, _⟩ => rfl
  | ⟨1, _⟩ => rfl

section Silu
open Cert.SiluIdeal Cert.SiluIdeal.Gen

theorem silu_apply (X W : FVec Ideal S2048x2048 .bf16) (a b : Fin 2048) :
    (Host.divf (Host.dotGeneral dot_S2048x2048_S2048x2048_S2048x2048_1_0_0_1_n_n none (extf .f32 X bitsLt_bf16_f32) (extf .f32 W bitsLt_bf16_f32))
      (addf (broadcastInDim S2048x2048 ![] bcast_S_S2048x2048 (constant S_ .f32 0x3F800000#32))
        (Host.exp (Host.negf (Host.dotGeneral dot_S2048x2048_S2048x2048_S2048x2048_1_0_0_1_n_n none (extf .f32 X bitsLt_bf16_f32) (extf .f32 W bitsLt_bf16_f32)))))
      : FVec Ideal S2048x2048 .f32) (ix2 a b)
      = Cert.Run.silu (whole X W a b) (whole X W a b) := by
  have hd := dotGeneral_plain_apply (m := 2048) (k := 2048) (n := 2048) none (extf .f32 X bitsLt_bf16_f32) (extf .f32 W bitsLt_bf16_f32) a b
  have hd' : Host.dotGeneral dot_S2048x2048_S2048x2048_S2048x2048_1_0_0_1_n_n none (extf .f32 X bitsLt_bf16_f32) (extf .f32 W bitsLt_bf16_f32) (ix2 a b)
      = whole X W a b := hd
  rw [← hd']
  show Ideal.div _ (Ideal.ofBits .f32 0x3F800000#32 + Ideal.exp (-_)) = _
  rw [Ideal.ofBits_one_f32]
  rfl

end Silu

section Reference
open Cert.ReferenceIdeal Cert.ReferenceIdeal.Gen

theorem reference_apply (X W : FVec Ideal S2048x2048 .bf16) (a b : Fin 2048) :
    (Host.divf (Host.dotGeneral dot_S2048x2048_S2048x2048_S2048x2048_1_0_0_1_n_n none (extf .f32 X bitsLt_bf16_f32) (extf .f32 W bitsLt_bf16_f32))
      (addf (broadcastInDim S2048x2048 ![] bcast_S_S2048x2048 (constant S_ .f32 0x3F800000#32))
        (Host.exp (Host.negf (minimumf (broadcastInDim S2048x2048 ![] bcast_S_S2048x2048 (id (constant S_ .f32 0x42700000#32)))
          (maximumf (broadcastInDim S2048x2048 ![] bcast_S_S2048x2048 (id (constant S_ .f32 0xC2700000#32)))
            (Host.dotGeneral dot_S2048x2048_S2048x2048_S2048x2048_1_0_0_1_n_n none (extf .f32 X bitsLt_bf16_f32) (extf .f32 W bitsLt_bf16_f32)))))))
      : FVec Ideal S2048x2048 .f32) (ix2 a b)
      = Cert.Run.silu (whole X W a b)
          (min (Ideal.ofBits .f32 0x42700000#32) (max (Ideal.ofBits .f32 0xC2700000#32) (whole X W a b))) := by
  have hd := dotGeneral_plain_apply (m := 2048) (k := 2048) (n := 2048) none (extf .f32 X bitsLt_bf16_f32) (extf .f32 W bitsLt_bf16_f32) a b
  have hd' : Host.dotGeneral dot_S2048x2048_S2048x2048_S2048x2048_1_0_0_1_n_n none (extf .f32 X bitsLt_bf16_f32) (extf .f32 W bitsLt_bf16_f32) (ix2 a b)
      = whole X W a b := hd
  rw [← hd']
  show Ideal.div _ (Ideal.ofBits .f32 0x3F800000#32 + Ideal.exp (-_)) = _
  rw [Ideal.ofBits_one_f32]
  rfl

end Reference

section Mask
open Cert.On_clip_inactive Cert.On_clip_inactive.Gen

/-- The mask is set where the product is at most 60 in magnitude. -/
theorem mask_apply (X W : FVec Ideal S2048x2048 .bf16) (a b : Fin 2048) (h : Cert.On_clip_inactive.fn (F := Ideal) X W (ix2 a b) = 1#1) :
    max (whole X W a b) (-whole X W a b) ≤ Ideal.ofBits .f32 0x42700000#32 := by
  have hd := dotGeneral_plain_apply (m := 2048) (k := 2048) (n := 2048) none (extf .f32 X bitsLt_bf16_f32) (extf .f32 W bitsLt_bf16_f32) a b
  have hd' : Host.dotGeneral dot_S2048x2048_S2048x2048_S2048x2048_1_0_0_1_n_n none (extf .f32 X bitsLt_bf16_f32) (extf .f32 W bitsLt_bf16_f32) (ix2 a b)
      = whole X W a b := hd
  rw [← hd']
  have h' : Ideal.cmp .ole (max (Host.dotGeneral dot_S2048x2048_S2048x2048_S2048x2048_1_0_0_1_n_n none (extf .f32 X bitsLt_bf16_f32) (extf .f32 W bitsLt_bf16_f32) (ix2 a b) : EReal)
      (-(Host.dotGeneral dot_S2048x2048_S2048x2048_S2048x2048_1_0_0_1_n_n none (extf .f32 X bitsLt_bf16_f32) (extf .f32 W bitsLt_bf16_f32) (ix2 a b) : EReal)))
      (Ideal.ofBits .f32 0x42700000#32) = 1#1 := h
  by_contra hn
  rw [show Ideal.cmp .ole _ _ = BitVec.ofBool (decide _) from rfl, decide_eq_false hn] at h'
  exact absurd h' (by decide)

end Mask

/-! ## The value claims -/

theorem algebraic_silu : Cert.algebraic_KernelIdeal_SiluIdeal := fun m ρ m' ρ' _ hagree =>
  ⟨_, (θ_run Cert.KernelIdeal.defs _ _).mono
      (fun _ h c => ⟨(h.1 c).1.trans (funext fun i => by
        rw [idx_pair i]
        exact (Cert.Run.out_whole (Cert.Run.xa m) (Cert.Run.wa m) _ _ (fun d => (hagree d).1) (fun d => (hagree d).2) c (i 0) (i 1)).trans
          (silu_apply _ _ (i 0) (i 1)).symm), (h.1 c).2⟩)
      (Cert.Run.run_main (F := Ideal) m ρ),
    (θ_run Cert.SiluIdeal.defs _ _).mono (fun _ h => h 0) (Cert.SiluIdeal.Value.run (F := Ideal) m' ρ')⟩

theorem algebraic_reference : Cert.algebraic_KernelIdeal_ReferenceIdeal_on_clip_inactive := fun m ρ m' ρ' _ hagree =>
  ⟨_, (θ_run Cert.KernelIdeal.defs _ _).mono
      (fun _ h c => ⟨fun i hi => (congrFun (h.1 c).1 i).trans (by
        rw [idx_pair i] at hi ⊢
        refine (Cert.Run.out_whole (Cert.Run.xa m) (Cert.Run.wa m) _ _ (fun d => (hagree d).1) (fun d => (hagree d).2) c (i 0) (i 1)).trans
          (Eq.trans ?_ (reference_apply _ _ (i 0) (i 1)).symm)
        rw [Cert.Run.clip_inactive _ _ _ Cert.Run.neg_sixty (mask_apply _ _ _ _ hi)]), (h.1 c).2⟩)
      (Cert.Run.run_main (F := Ideal) m ρ),
    (θ_run Cert.ReferenceIdeal.defs _ _).mono (fun _ h => ⟨fun i _ => congrFun (h 0).1 i, (h 0).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.SiluIdeal.Gen.facts, Cert.On_clip_inactive.Gen.facts,
    frame_kernel, frame_kernelIdeal, frame_reference, frame_silu, trivial, algebraic_reference, algebraic_silu⟩

end Cert.Proof

end
